-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_KernelPrepIdeal_keys_finite [hPre_keys_finite : Cert.Pre_keys_finite.Facts] (m : (ℓ : Loc Cert.KernelPrepIdeal.nD Cert.KernelPrepIdeal.τ Cert.KernelPrepIdeal.sig) → Buf (Elt Ideal) ℓ) : Prop :=
  ∀ c : Dev Cert.KernelPrepIdeal.nD,
    (Cert.Pre_keys_finite.fn (F := Ideal) (m ((c.tc : Thread Cert.KernelPrepIdeal.nD Cert.KernelPrepIdeal.τ).loc Cert.KernelPrepIdeal.main_arg0)) (m ((c.tc : Thread Cert.KernelPrepIdeal.nD Cert.KernelPrepIdeal.τ).loc Cert.KernelPrepIdeal.main_arg1)) (m ((c.tc : Thread Cert.KernelPrepIdeal.nD Cert.KernelPrepIdeal.τ).loc Cert.KernelPrepIdeal.main_arg2))) = (fun _ => 1#1)

def Pre_ReferencePrepIdeal (m : (ℓ : Loc Cert.ReferencePrepIdeal.nD Cert.ReferencePrepIdeal.τ Cert.ReferencePrepIdeal.sig) → Buf (Elt Ideal) ℓ) : Prop :=
  True

def Pre_ReferencePrepIdeal_keys_finite [hPre_keys_finite : Cert.Pre_keys_finite.Facts] (m : (ℓ : Loc Cert.ReferencePrepIdeal.nD Cert.ReferencePrepIdeal.τ Cert.ReferencePrepIdeal.sig) → Buf (Elt Ideal) ℓ) : Prop :=
  ∀ c : Dev Cert.ReferencePrepIdeal.nD,
    (Cert.Pre_keys_finite.fn (F := Ideal) (m ((c.tc : Thread Cert.ReferencePrepIdeal.nD Cert.ReferencePrepIdeal.τ).loc Cert.ReferencePrepIdeal.main_arg0)) (m ((c.tc : Thread Cert.ReferencePrepIdeal.nD Cert.ReferencePrepIdeal.τ).loc Cert.ReferencePrepIdeal.main_arg1)) (m ((c.tc : Thread Cert.ReferencePrepIdeal.nD Cert.ReferencePrepIdeal.τ).loc Cert.ReferencePrepIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1)
      ∧ r.2.mem ((c.tc : Thread Cert.KernelPrep.nD Cert.KernelPrep.τ).loc Cert.KernelPrep.main_arg2) = m ((c.tc : Thread Cert.KernelPrep.nD Cert.KernelPrep.τ).loc Cert.KernelPrep.main_arg2))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ r.2.sem = fun _ => 0)

def quiescent_KernelPrepIdeal_pre_keys_finite [hKernelPrepIdeal : Cert.KernelPrepIdeal.Facts] [hPre_keys_finite : Cert.Pre_keys_finite.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal_keys_finite m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
      ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2))
      ∧ r.2.sem = fun _ => 0)

def quiescent_ReferencePrepIdeal_pre_keys_finite [hReferencePrepIdeal : Cert.ReferencePrepIdeal.Facts] [hPre_keys_finite : Cert.Pre_keys_finite.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal_keys_finite m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1)
      ∧ r.2.mem ((c.tc : Thread Cert.ReferencePrepIdeal.nD Cert.ReferencePrepIdeal.τ).loc Cert.ReferencePrepIdeal.main_arg2) = m ((c.tc : Thread Cert.ReferencePrepIdeal.nD Cert.ReferencePrepIdeal.τ).loc Cert.ReferencePrepIdeal.main_arg2))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg3" .f32 0xBB80402B#32 ((Real.log (255 / 256) : ℝ) : EReal)
  ∧ IdealRules.named_const.Statement Cert.KernelIdeal.κ "lg4" .f32 0xBB00200B#32 ((Real.log (511 / 512) : ℝ) : EReal)
  ∧ IdealRules.named_const.Statement Cert.KernelIdeal.κ "lg5" .f32 0xBA801003#32 ((Real.log (1023 / 1024) : ℝ) : EReal)
  ∧ IdealRules.named_const.Statement Cert.KernelIdeal.κ "lg6" .f32 0xBA000801#32 ((Real.log (2047 / 2048) : ℝ) : EReal)
  ∧ IdealRules.named_const.Statement Cert.KernelIdeal.κ "lg7" .f32 0xB9800400#32 ((Real.log (4095 / 4096) : ℝ) : EReal)
  ∧ IdealRules.named_const.Statement Cert.KernelIdeal.κ "gc0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "gc1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "gc2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "gc3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  ∧ IdealRules.named_const.Statement Cert.KernelIdeal.κ "gc4" .f32 0x3F475303#32 ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  ∧ IdealRules.named_const.Statement Cert.KernelIdeal.κ "gc5" .f32 0x3F61E7C9#32 ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "gc6" .f32 0x3F707C6F#32 ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  ∧ IdealRules.named_const.Statement Cert.KernelIdeal.κ "gc7" .f32 0x3F781F6D#32 ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v13) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v4_0)) (v1 : (c : Dev Cert.KernelUpIdeal.nD) → Buf (Elt Ideal) ((c.tc : Thread Cert.KernelUpIdeal.nD Cert.KernelUpIdeal.τ).loc Cert.KernelUpIdeal.main_v5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v4_0) = v0 c
          ∧ r.2.mem ((c.tc : Thread Cert.KernelUpIdeal.nD Cert.KernelUpIdeal.τ).loc Cert.KernelUpIdeal.main_v5) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v46) = v0 c
          ∧ r.2.mem ((c.tc : Thread Cert.ReferenceUpIdeal.nD Cert.ReferenceUpIdeal.τ).loc Cert.ReferenceUpIdeal.main_v44) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v4)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v4) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v24) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelPrep_KernelPrepIdeal : Prop :=
  True

def algebraic_KernelPrepIdeal_ReferencePrepIdeal_pre_keys_finite [hKernelPrepIdeal : Cert.KernelPrepIdeal.Facts] [hReferencePrepIdeal : Cert.ReferencePrepIdeal.Facts] [hPre_keys_finite : Cert.Pre_keys_finite.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal_keys_finite m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)
      ∧ m' ((c.tc : Thread Cert.ReferencePrepIdeal.nD Cert.ReferencePrepIdeal.τ).loc Cert.ReferencePrepIdeal.main_arg2) = m ((c.tc : Thread Cert.KernelPrepIdeal.nD Cert.KernelPrepIdeal.τ).loc Cert.KernelPrepIdeal.main_arg2)) →
    ∃ (v0 : (c : Dev Cert.KernelPrepIdeal.nD) → Buf (Elt Ideal) ((c.tc : Thread Cert.KernelPrepIdeal.nD Cert.KernelPrepIdeal.τ).loc Cert.KernelPrepIdeal.main_v8_1)) (v1 : (c : Dev Cert.KernelPrepIdeal.nD) → Buf (Elt Ideal) ((c.tc : Thread Cert.KernelPrepIdeal.nD Cert.KernelPrepIdeal.τ).loc Cert.KernelPrepIdeal.main_v8_3)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v8_1) = v0 c
          ∧ r.2.mem ((c.tc : Thread Cert.KernelPrepIdeal.nD Cert.KernelPrepIdeal.τ).loc Cert.KernelPrepIdeal.main_v8_3) = v1 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1)
          ∧ r.2.mem ((c.tc : Thread Cert.KernelPrepIdeal.nD Cert.KernelPrepIdeal.τ).loc Cert.KernelPrepIdeal.main_arg2) = m ((c.tc : Thread Cert.KernelPrepIdeal.nD Cert.KernelPrepIdeal.τ).loc Cert.KernelPrepIdeal.main_arg2))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v18) = v0 c
          ∧ r.2.mem ((c.tc : Thread Cert.ReferencePrepIdeal.nD Cert.ReferencePrepIdeal.τ).loc Cert.ReferencePrepIdeal.main_v3) = v1 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1)
          ∧ r.2.mem ((c.tc : Thread Cert.ReferencePrepIdeal.nD Cert.ReferencePrepIdeal.τ).loc Cert.ReferencePrepIdeal.main_arg2) = m' ((c.tc : Thread Cert.ReferencePrepIdeal.nD Cert.ReferencePrepIdeal.τ).loc Cert.ReferencePrepIdeal.main_arg2))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelPrep : Cert.KernelPrep.Facts) (hKernelPrepIdeal : Cert.KernelPrepIdeal.Facts) (hReferencePrepIdeal : Cert.ReferencePrepIdeal.Facts) (hPre_keys_finite : Cert.Pre_keys_finite.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelPrep (hKernelPrep := hKernelPrep)
    ∧ quiescent_KernelPrepIdeal (hKernelPrepIdeal := hKernelPrepIdeal)
    ∧ quiescent_KernelPrepIdeal_pre_keys_finite (hKernelPrepIdeal := hKernelPrepIdeal) (hPre_keys_finite := hPre_keys_finite)
    ∧ quiescent_ReferencePrepIdeal (hReferencePrepIdeal := hReferencePrepIdeal)
    ∧ quiescent_ReferencePrepIdeal_pre_keys_finite (hReferencePrepIdeal := hReferencePrepIdeal) (hPre_keys_finite := hPre_keys_finite)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelPrep_KernelPrepIdeal
    ∧ algebraic_KernelPrepIdeal_ReferencePrepIdeal_pre_keys_finite (hKernelPrepIdeal := hKernelPrepIdeal) (hReferencePrepIdeal := hReferencePrepIdeal) (hPre_keys_finite := hPre_keys_finite)
-- ==== Pre_keys_finite.lean ====
abbrev S8192x14336 : Shape := ⟨2, ![8192, 14336]⟩
abbrev S64 : Shape := ⟨1, ![64]⟩
abbrev S8192x1024 : Shape := ⟨2, ![8192, 1024]⟩
abbrev S_ : Shape := ⟨0, ![]⟩

class Facts : Prop where
  slices_S8192x14336_S8192x1024_0_1024 : S8192x14336.Slices ![0, 1024] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x14336 .f32) (main_arg1 : FVec F S64 .f32) (main_arg2 : FVec F S64 .f32) : IVec S_ 1 :=
  let main_v0 : FVec F S8192x1024 .f32 := (extractStridedSlice S8192x1024 ![0, 1024] · slices_S8192x14336_S8192x1024_0_1024) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  main_v4
-- ==== Kernel.lean ====
abbrev S8192x14336 : Shape := ⟨2, ![8192, 14336]⟩
abbrev S128 : Shape := ⟨1, ![128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S1x128 : Shape := ⟨2, ![1, 128]⟩
abbrev S8192x1024 : Shape := ⟨2, ![8192, 1024]⟩
abbrev S2x4x128x128 : Shape := ⟨4, ![2, 4, 128, 128]⟩
abbrev S512x512 : Shape := ⟨2, ![512, 512]⟩
abbrev S512x1024 : Shape := ⟨2, ![512, 1024]⟩
abbrev S1x4x128x128 : Shape := ⟨4, ![1, 4, 128, 128]⟩
abbrev S4x128x128 : Shape := ⟨3, ![4, 128, 128]⟩
abbrev S128x512 : Shape := ⟨2, ![128, 512]⟩
abbrev S128x1024 : Shape := ⟨2, ![128, 1024]⟩
abbrev S128x128 : Shape := ⟨2, ![128, 128]⟩
abbrev S128x1 : Shape := ⟨2, ![128, 1]⟩
abbrev S1x128x128 : Shape := ⟨3, ![1, 128, 128]⟩

abbrev nBuf : Space → Nat
  | .hbm => 33
  | .vmem => 18
  | .smem => 0
  | _ => 0

abbrev bufTy : (tb : Table) → Fin (tcTables nBuf tb) → BufTy
  | .hbm, ⟨0, _⟩ => ⟨S8192x14336, .f32⟩
  | .hbm, ⟨1, _⟩ => ⟨S128, .f32⟩
  | .hbm, ⟨2, _⟩ => ⟨S4096, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x64, .f32⟩
  | .hbm, ⟨22, _⟩ => ⟨S1x4096x1x64, .f32⟩
  | .hbm, ⟨23, _⟩ => ⟨S1x4096x8x64, .f32⟩
  | .hbm, ⟨24, _⟩ => ⟨S4096x512, .f32⟩
  | .hbm, ⟨25, _⟩ => ⟨S4096x32, .f32⟩
  | .hbm, ⟨26, _⟩ => ⟨S4096x64, .f32⟩
  | .hbm, ⟨27, _⟩ => ⟨S1x4096x1x64, .f32⟩
  | .hbm, ⟨28, _⟩ => ⟨S1x4096x8x64, .f32⟩
  | .hbm, ⟨29, _⟩ => ⟨S4096x512, .f32⟩
  | .hbm, ⟨30, _⟩ => ⟨S1x128, .f32⟩
  | .hbm, ⟨31, _⟩ => ⟨S8192x1024, .bf16⟩
  | .hbm, ⟨32, _⟩ => ⟨S2x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1x4x128x128, .f32⟩
  | .local _ .vmem, ⟨16, _⟩ => ⟨S1x4x128x128, .f32⟩
  | .local _ .vmem, ⟨17, _⟩ => ⟨S4x128x128, .f32⟩
  | _, _ => ⟨S8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32_897 : BitVec 32 := 7#32
  let v2381 : BitVec 1 := Scalar.cmpi .eq arg1 c7_i32_897
  let v2382 : BitVec 32 := Scalar.extui v2381
  let c0_i32_898 : BitVec 32 := 0#32
  let v2383 : BitVec 1 := Scalar.cmpi .ne v2382 c0_i32_898
  v2383

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "gc0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gc1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gc2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gc3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "gc4" => some ((47629411692907116618449907612943127113503058551675946475726046321068673767448309433604978842042244727950808621043443846226460652335771338586632158945163132521668959777554552621550652820578661694876446670852176498616800683992861587538664151446101098738528916217395117383283261069385353239390029990732456890130741979784965471495112669402908501934081 / 61172327492847069472032393719205726809135813743440799050195397570919697796091958321786863938157971792315844506873509046544459008355036150650333616890210625686064472971480622053109783197015954399612052812141827922088117778074833698589048132156300022844899841969874763871624802603515651998113045708569927237462546233168834543264678118409417047146496 : ℝ) : EReal)
  | "gc5" => some ((18368813940068701121309471031748546166409385177907889681567909204907843101356355113621789948457578423950951357861201635378353901841502083551214518705094576000801881609357528370927695345999771540811130220701806311437704123410191713207648461265752321556704891384575009631286846774765075276410443802620990291581417820693201927792904733968311586634391883874777008525219926635061949132308481 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gc6" => some ((6654016306095794578375805711706083627451106248621586707412028597044408595312882379735073979112908018757447922758800571158845448981108241366532934936903543922134307313033151462922936471521739184867036790102713388902849653985362444399390130211558444266640229528797001241261265790623485036884367437026101609929603420057467875778203261521955819753306746817495538758501232080385332001279585751237624806311955763606715255754588161 / 7083271603906078757501937199839970337237042072752024044272935252133021449487672037753077279976540494138725768234495819230178699615482523444525217326451885295083794903354995236859949814158861106339793498427520403285563504697437506153794873484561573759163876734171825622767620957924878367969185009358384129424236514293956457858505582263102570156257796764049361854053114869322098725721757629614488965634874516982012228724064256 : ℝ) : EReal)
  | "gc7" => some ((2336145996485715011108153785615776499858733148743538919007787240374300769161677364451330588546379393934710767297948693750212977182432144756693222913694201351415707587213845469885411951467421009026364398236912296974770937803354917816344076178184271938993357862007940537484988845481851311787727821040804576004627517636545830787600741566109129512685857776895668995836668969820089659981854127844078976793816477847952302188670216376298327531912946142256259918212890625 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lg4" => some ((Real.log (511 / 512) : ℝ) : EReal)
  | "lg5" => some ((Real.log (1023 / 1024) : ℝ) : EReal)
  | "lg6" => some ((Real.log (2047 / 2048) : ℝ) : EReal)
  | "lg7" => some ((Real.log (4095 / 4096) : ℝ) : EReal)
  | _ => none
-- ==== ReferenceIdeal.lean ====
abbrev S8192x14336 : Shape := ⟨2, ![8192, 14336]⟩
abbrev S128 : Shape := ⟨1, ![128]⟩
abbrev S4096 : Shape := ⟨1, ![4096]⟩
abbrev S2x4096x14336 : Shape := ⟨3, ![2, 4096, 14336]⟩
abbrev S2x4096x2048 : Shape := ⟨3, ![2, 4096, 2048]⟩
abbrev S2x4096x512 : Shape := ⟨3, ![2, 4096, 512]⟩
abbrev S2x4096x1024 : Shape := ⟨3, ![2, 4096, 1024]⟩
abbrev S2x4096x8x64 : Shape := ⟨4, ![2, 4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S2x4096x8x32 : Shape := ⟨4, ![2, 4096, 8, 32]⟩
abbrev S1x4096x1x32 : Shape := ⟨4, ![1, 4096, 1, 32]⟩
abbrev S2x8x64x128 : Shape := ⟨4, ![2, 8, 64, 128]⟩
abbrev S2x4096x8x128 : Shape := ⟨4, ![2, 4096, 8, 128]⟩
abbrev S2x32x128x8x64 : Shape := ⟨5, ![2, 32, 128, 8, 64]⟩
abbrev S32x2x128x8x64 : Shape := ⟨5, ![32, 2, 128, 8, 64]⟩
abbrev S2x32x128x8x128 : Shape := ⟨5, ![2, 32, 128, 8, 128]⟩
abbrev S32x2x128x8x128 : Shape := ⟨5, ![32, 2, 128, 8, 128]⟩
abbrev S1x2x128x8x64 : Shape := ⟨5, ![1, 2, 128, 8, 64]⟩
abbrev S2x128x8x64 : Shape := ⟨4, ![2, 128, 8, 64]⟩
abbrev S1x2x128x8x128 : Shape := ⟨5, ![1, 2, 128, 8, 128]⟩
abbrev S2x128x8x128 : Shape := ⟨4, ![2, 128, 8, 128]⟩
abbrev S8 : Shape := ⟨1, ![8]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S2x8x128x128 : Shape := ⟨4, ![2, 8, 128, 128]⟩
abbrev S1x8x128x128 : Shape := ⟨4, ![1, 8, 128, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S8192x1024 : Shape := ⟨2, ![8192, 1024]⟩
abbrev S2x4x128x128 : Shape := ⟨4, ![2, 4, 128, 128]⟩

abbrev nBuf : Space → Nat
  | .hbm => 240
  | .vmem => 0
  | .smem => 0
  | _ => 0

abbrev hbmTy0_0 (i : Nat) : BufTy := match i % 128 with
  | 0 => ⟨S8192x14336, .f32⟩
  | 1 => ⟨S128, .f32⟩
  | 2 => ⟨S4096, .i32⟩
  | 3 => ⟨S2x4096x14336, .f32⟩
  | 4 => ⟨S2x4096x2048, .f32⟩
  | 5 => ⟨S2x4096x512, .f32⟩
  | 6 => ⟨S2x4096x512, .f32⟩
  | 7 => ⟨S2x4096x1024, .f32⟩
  | 8 => ⟨S2x4096x8x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4096, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x32, .f32⟩
  | 26 => ⟨S4096x1x32, .f32⟩
  | 27 => ⟨S4096x32, .f32⟩
  | 28 => ⟨S4096x1x32, .f32⟩
  | 29 => ⟨S2x4096x8x32, .f32⟩
  | 30 => ⟨S2x4096x8x32, .f32⟩
  | 31 => ⟨S1x4096x1x32, .f32⟩
  | 32 => ⟨S2x4096x8x32, .f32⟩
  | 33 => ⟨S2x4096x8x32, .f32⟩
  | 34 => ⟨S1x4096x1x32, .f32⟩
  | 35 => ⟨S2x4096x8x32, .f32⟩
  | 36 => ⟨S2x4096x8x32, .f32⟩
  | 37 => ⟨S2x4096x8x32, .f32⟩
  | 38 => ⟨S1x4096x1x32, .f32⟩
  | 39 => ⟨S2x4096x8x32, .f32⟩
  | 40 => ⟨S2x4096x8x32, .f32⟩
  | 41 => ⟨S1x4096x1x32, .f32⟩
  | 42 => ⟨S2x4096x8x32, .f32⟩
  | 43 => ⟨S2x4096x8x32, .f32⟩
  | 44 => ⟨S2x4096x8x32, .f32⟩
  | 45 => ⟨S2x4096x8x64, .f32⟩
  | 46 => ⟨S2x4096x8x64, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S4096, .f32⟩
  | 58 => ⟨S4096x1, .f32⟩
  | 59 => ⟨S1x32, .f32⟩
  | 60 => ⟨S4096x32, .f32⟩
  | 61 => ⟨S4096x32, .f32⟩
  | 62 => ⟨S4096x32, .f32⟩
  | 63 => ⟨S4096x32, .f32⟩
  | 64 => ⟨S4096x1x32, .f32⟩
  | 65 => ⟨S4096x32, .f32⟩
  | 66 => ⟨S4096x1x32, .f32⟩
  | 67 => ⟨S2x4096x8x32, .f32⟩
  | 68 => ⟨S2x4096x8x32, .f32⟩
  | 69 => ⟨S1x4096x1x32, .f32⟩
  | 70 => ⟨S2x4096x8x32, .f32⟩
  | 71 => ⟨S2x4096x8x32, .f32⟩
  | 72 => ⟨S1x4096x1x32, .f32⟩
  | 73 => ⟨S2x4096x8x32, .f32⟩
  | 74 => ⟨S2x4096x8x32, .f32⟩
  | 75 => ⟨S2x4096x8x32, .f32⟩
  | 76 => ⟨S1x4096x1x32, .f32⟩
  | 77 => ⟨S2x4096x8x32, .f32⟩
  | 78 => ⟨S2x4096x8x32, .f32⟩
  | 79 => ⟨S1x4096x1x32, .f32⟩
  | 80 => ⟨S2x4096x8x32, .f32⟩
  | 81 => ⟨S2x4096x8x32, .f32⟩
  | 82 => ⟨S2x4096x8x32, .f32⟩
  | 83 => ⟨S2x4096x8x64, .f32⟩
  | 84 => ⟨S_, .f32⟩
  | 85 => ⟨S2x4096x8x64, .f32⟩
  | 86 => ⟨S2x4096x8x64, .f32⟩
  | 87 => ⟨S_, .f32⟩
  | 88 => ⟨S2x8x64x128, .f32⟩
  | 89 => ⟨S2x4096x8x128, .f32⟩
  | 90 => ⟨S2x32x128x8x64, .f32⟩
  | 91 => ⟨S32x2x128x8x64, .f32⟩
  | 92 => ⟨S2x32x128x8x64, .f32⟩
  | 93 => ⟨S32x2x128x8x64, .f32⟩
  | 94 => ⟨S2x32x128x8x128, .f32⟩
  | 95 => ⟨S32x2x128x8x128, .f32⟩
  | 96 => ⟨S_, .f32⟩
  | 97 => ⟨S32x2x128x8x128, .f32⟩
  | 98 => ⟨S_, .i32⟩
  | 99 => ⟨S32x2x128x8x64, .f32⟩
  | 100 => ⟨S32x2x128x8x64, .f32⟩
  | 101 => ⟨S32x2x128x8x128, .f32⟩
  | 102 => ⟨S_, .i32⟩
  | 103 => ⟨S2x8x64x128, .f32⟩
  | 104 => ⟨S32x2x128x8x128, .f32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S1x2x128x8x64, .f32⟩
  | 112 => ⟨S2x128x8x64, .f32⟩
  | 113 => ⟨S_, .i32⟩
  | 114 => ⟨S_, .i32⟩
  | 115 => ⟨S_, .i32⟩
  | 116 => ⟨S_, .i32⟩
  | 117 => ⟨S1x2x128x8x64, .f32⟩
  | 118 => ⟨S2x128x8x64, .f32⟩
  | 119 => ⟨S_, .i32⟩
  | 120 => ⟨S_, .i32⟩
  | 121 => ⟨S_, .i32⟩
  | 122 => ⟨S_, .i32⟩
  | 123 => ⟨S1x2x128x8x128, .f32⟩
  | 124 => ⟨S2x128x8x128, .f32⟩
  | 125 => ⟨S8, .f32⟩
  | 126 => ⟨S_, .f32⟩
  | 127 => ⟨S8, .f32⟩
  | _ => ⟨S8192x14336, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S8, .f32⟩
  | 5 => ⟨S8, .f32⟩
  | 6 => ⟨S128, .f32⟩
  | 7 => ⟨S128x1, .f32⟩
  | 8 => ⟨S1x128, .f32⟩
  | 9 => ⟨S128x128, .f32⟩
  | 10 => ⟨S128x128, .f32⟩
  | 11 => ⟨S128x128, .f32⟩
  | 12 => ⟨S_, .f32⟩
  | 13 => ⟨S128x128, .f32⟩
  | 14 => ⟨S128x128, .i1⟩
  | 15 => ⟨S_, .f32⟩
  | 16 => ⟨S128x128, .f32⟩
  | 17 => ⟨S128x128, .f32⟩
  | 18 => ⟨S1x128x128, .f32⟩
  | 19 => ⟨S8x1x1, .f32⟩
  | 20 => ⟨S8x128x128, .f32⟩
  | 21 => ⟨S8x128x128, .f32⟩
  | 22 => ⟨S8x128x128, .f32⟩
  | 23 => ⟨S8x128x128, .f32⟩
  | 24 => ⟨S_, .f32⟩
  | 25 => ⟨S8x128x128, .i1⟩
  | 26 => ⟨S8x128x128, .f32⟩
  | 27 => ⟨S8x128x128, .f32⟩
  | 28 => ⟨S2x8x128x128, .f32⟩
  | 29 => ⟨S1x8x128x128, .f32⟩
  | 30 => ⟨S2x8x128x128, .f32⟩
  | 31 => ⟨S2x8x128x128, .f32⟩
  | 32 => ⟨S2x8x128x128, .f32⟩
  | 33 => ⟨S2x128x8x128, .f32⟩
  | 34 => ⟨S_, .f32⟩
  | 35 => ⟨S128, .f32⟩
  | 36 => ⟨S128, .f32⟩
  | 37 => ⟨S128x1, .f32⟩
  | 38 => ⟨S1x8, .f32⟩
  | 39 => ⟨S128x8, .f32⟩
  | 40 => ⟨S128x8, .f32⟩
  | 41 => ⟨S128x8, .f32⟩
  | 42 => ⟨S128x8, .f32⟩
  | 43 => ⟨S2x8x128x128, .f32⟩
  | 44 => ⟨S2x128x8x128, .f32⟩
  | 45 => ⟨S1x128x8x1, .f32⟩
  | 46 => ⟨S2x128x8x128, .f32⟩
  | 47 => ⟨S2x128x8x128, .f32⟩
  | 48 => ⟨S_, .f32⟩
  | 49 => ⟨S128, .f32⟩
  | 50 => ⟨S128, .f32⟩
  | 51 => ⟨S128x1, .f32⟩
  | 52 => ⟨S1x8, .f32⟩
  | 53 => ⟨S128x8, .f32⟩
  | 54 => ⟨S128x8, .f32⟩
  | 55 => ⟨S128x8, .f32⟩
  | 56 => ⟨S128x8, .f32⟩
  | 57 => ⟨S_, .f32⟩
  | 58 => ⟨S8, .f32⟩
  | 59 => ⟨S8, .f32⟩
  | 60 => ⟨S8, .f32⟩
  | 61 => ⟨S1x8x1x1, .f32⟩
  | 62 => ⟨S2x8x64x128, .f32⟩
  | 63 => ⟨S2x8x64x128, .f32⟩
  | 64 => ⟨S1x128x8x1, .f32⟩
  | 65 => ⟨S2x128x8x64, .f32⟩
  | 66 => ⟨S2x128x8x64, .f32⟩
  | 67 => ⟨S2x8x64x128, .f32⟩
  | 68 => ⟨S2x8x64x128, .f32⟩
  | 69 => ⟨S2x128x8x128, .f32⟩
  | 70 => ⟨S1x2x128x8x128, .f32⟩
  | 71 => ⟨S_, .i32⟩
  | 72 => ⟨S_, .i32⟩
  | 73 => ⟨S_, .i32⟩
  | 74 => ⟨S_, .i32⟩
  | 75 => ⟨S32x2x128x8x128, .f32⟩
  | 76 => ⟨S_, .i32⟩
  | 77 => ⟨S_, .i32⟩
  | 78 => ⟨S2x32x128x8x128, .f32⟩
  | 79 => ⟨S2x4096x8x128, .f32⟩
  | 80 => ⟨S2x4096x14336, .f32⟩
  | 81 => ⟨S2x4096x1024, .f32⟩
  | 82 => ⟨S2x4096x8x128, .f32⟩
  | 83 => ⟨S_, .f32⟩
  | 84 => ⟨S2x4096x8, .f32⟩
  | 85 => ⟨S2x4096x8x1, .f32⟩
  | 86 => ⟨S_, .f32⟩
  | 87 => ⟨S2x4096x8x1, .f32⟩
  | 88 => ⟨S2x4096x8x1, .f32⟩
  | 89 => ⟨S_, .f32⟩
  | 90 => ⟨S2x4096x8x1, .f32⟩
  | 91 => ⟨S2x4096x8x1, .f32⟩
  | 92 => ⟨S2x4096x8x1, .f32⟩
  | 93 => ⟨S2x4096x8x128, .f32⟩
  | 94 => ⟨S2x4096x8x128, .f32⟩
  | 95 => ⟨S1x1x1x128, .f32⟩
  | 96 => ⟨S2x4096x8x128, .f32⟩
  | 97 => ⟨S2x4096x8x128, .f32⟩
  | 98 => ⟨S2x4096x1024, .f32⟩
  | 99 => ⟨S2x4096x1024, .f32⟩
  | 100 => ⟨S_, .f32⟩
  | 101 => ⟨S2x4096x1024, .f32⟩
  | 102 => ⟨S2x4096x1024, .f32⟩
  | 103 => ⟨S_, .f32⟩
  | 104 => ⟨S2x4096x1024, .f32⟩
  | 105 => ⟨S2x4096x1024, .f32⟩
  | 106 => ⟨S2x4096x1024, .f32⟩
  | 107 => ⟨S2x4096x8x128, .f32⟩
  | 108 => ⟨S2x4096x8x128, .f32⟩
  | 109 => ⟨S8192x1024, .f32⟩
  | 110 => ⟨S8192x1024, .bf16⟩
  | 111 => ⟨S2x4x128x128, .f32⟩
  | _ => ⟨S8192x14336, .f32⟩

abbrev hbmTy (i : Nat) : BufTy := match i / 128 with
  | 0 => hbmTy0_0 i
  | 1 => hbmTy0_1 i
  | _ => ⟨S8192x14336, .f32⟩

abbrev bufTy : (tb : Table) → Fin (tcTables nBuf tb) → BufTy
  | .hbm, ⟨i, _⟩ => hbmTy i
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_v77 : Ref sig .tc := ⟨.hbm, 86, rfl⟩
abbrev main_cst_6 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_v86 : Ref sig .tc := ⟨.hbm, 97, rfl⟩
abbrev main_c : Ref sig .tc := ⟨.hbm, 98, rfl⟩
abbrev main_v87_0 : Ref sig .tc := ⟨.hbm, 99, rfl⟩
abbrev main_v87_1 : Ref sig .tc := ⟨.hbm, 100, rfl⟩
abbrev main_v87_2 : Ref sig .tc := ⟨.hbm, 101, rfl⟩
abbrev main_v87_3 : Ref sig .tc := ⟨.hbm, 102, rfl⟩
abbrev main_v87_4 : Ref sig .tc := ⟨.hbm, 103, rfl⟩
abbrev main_v87_5 : Ref sig .tc := ⟨.hbm, 104, rfl⟩
abbrev main_while0c_c_16 : Ref sig .tc := ⟨.hbm, 105, rfl⟩
abbrev main_while0c_v111 : Ref sig .tc := ⟨.hbm, 106, rfl⟩
abbrev main_while0b_call0_c : Ref sig .tc := ⟨.hbm, 107, rfl⟩
abbrev main_while0b_call0_c_0 : Ref sig .tc := ⟨.hbm, 108, rfl⟩
abbrev main_while0b_call0_c_1 : Ref sig .tc := ⟨.hbm, 109, rfl⟩
abbrev main_while0b_call0_c_2 : Ref sig .tc := ⟨.hbm, 110, rfl⟩
abbrev main_while0b_call0_v0 : Ref sig .tc := ⟨.hbm, 111, rfl⟩
abbrev main_while0b_v111 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_c_1 : Ref sig .tc := ⟨.hbm, 115, rfl⟩
abbrev main_while0b_call1_c_2 : Ref sig .tc := ⟨.hbm, 116, rfl⟩
abbrev main_while0b_call1_v0 : Ref sig .tc := ⟨.hbm, 117, rfl⟩
abbrev main_while0b_v112 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_c_1 : Ref sig .tc := ⟨.hbm, 121, rfl⟩
abbrev main_while0b_call2_c_2 : Ref sig .tc := ⟨.hbm, 122, rfl⟩
abbrev main_while0b_call2_v0 : Ref sig .tc := ⟨.hbm, 123, rfl⟩
abbrev main_while0b_v113 : Ref sig .tc := ⟨.hbm, 124, rfl⟩
abbrev main_while0b_v114 : Ref sig .tc := ⟨.hbm, 125, rfl⟩
abbrev main_while0b_cst_16 : Ref sig .tc := ⟨.hbm, 126, rfl⟩
abbrev main_while0b_v115 : Ref sig .tc := ⟨.hbm, 127, rfl⟩
abbrev main_while0b_v116 : Ref sig .tc := ⟨.hbm, 128, rfl⟩
abbrev main_while0b_cst_17 : Ref sig .tc := ⟨.hbm, 129, rfl⟩
abbrev main_while0b_v117 : Ref sig .tc := ⟨.hbm, 130, rfl⟩
abbrev main_while0b_v118 : Ref sig .tc := ⟨.hbm, 131, rfl⟩
abbrev main_while0b_v119 : Ref sig .tc := ⟨.hbm, 132, rfl⟩
abbrev main_while0b_v120 : Ref sig .tc := ⟨.hbm, 133, rfl⟩
abbrev main_while0b_v121 : Ref sig .tc := ⟨.hbm, 134, rfl⟩
abbrev main_while0b_v122 : Ref sig .tc := ⟨.hbm, 135, rfl⟩
abbrev main_while0b_v123 : Ref sig .tc := ⟨.hbm, 136, rfl⟩
abbrev main_while0b_v124 : Ref sig .tc := ⟨.hbm, 137, rfl⟩
abbrev main_while0b_v125 : Ref sig .tc := ⟨.hbm, 138, rfl⟩
abbrev main_while0b_v126 : Ref sig .tc := ⟨.hbm, 139, rfl⟩
abbrev main_while0b_cst_18 : Ref sig .tc := ⟨.hbm, 140, rfl⟩
abbrev main_while0b_v127 : Ref sig .tc := ⟨.hbm, 141, rfl⟩
abbrev main_while0b_v128 : Ref sig .tc := ⟨.hbm, 142, rfl⟩
abbrev main_while0b_cst_19 : Ref sig .tc := ⟨.hbm, 143, rfl⟩
abbrev main_while0b_v129 : Ref sig .tc := ⟨.hbm, 144, rfl⟩
abbrev main_while0b_v130 : Ref sig .tc := ⟨.hbm, 145, rfl⟩
abbrev main_while0b_v131 : Ref sig .tc := ⟨.hbm, 146, rfl⟩
abbrev main_while0b_v132 : Ref sig .tc := ⟨.hbm, 147, rfl⟩
abbrev main_while0b_v133 : Ref sig .tc := ⟨.hbm, 148, rfl⟩
abbrev main_while0b_v134 : Ref sig .tc := ⟨.hbm, 149, rfl⟩
abbrev main_while0b_v135 : Ref sig .tc := ⟨.hbm, 150, rfl⟩
abbrev main_while0b_v136 : Ref sig .tc := ⟨.hbm, 151, rfl⟩
abbrev main_while0b_cst_20 : Ref sig .tc := ⟨.hbm, 152, rfl⟩
abbrev main_while0b_call3_v0 : Ref sig .tc := ⟨.hbm, 153, rfl⟩
abbrev main_while0b_call3_v1 : Ref sig .tc := ⟨.hbm, 154, rfl⟩
abbrev main_while0b_v137 : Ref sig .tc := ⟨.hbm, 155, rfl⟩
abbrev main_while0b_v138 : Ref sig .tc := ⟨.hbm, 156, rfl⟩
abbrev main_while0b_v139 : Ref sig .tc := ⟨.hbm, 157, rfl⟩
abbrev main_while0b_v140 : Ref sig .tc := ⟨.hbm, 158, rfl⟩
abbrev main_while0b_v141 : Ref sig .tc := ⟨.hbm, 159, rfl⟩
abbrev main_while0b_v142 : Ref sig .tc := ⟨.hbm, 160, rfl⟩
abbrev main_while0b_v143 : Ref sig .tc := ⟨.hbm, 161, rfl⟩
abbrev main_while0b_cst_21 : Ref sig .tc := ⟨.hbm, 162, rfl⟩
abbrev main_while0b_v144 : Ref sig .tc := ⟨.hbm, 163, rfl⟩
abbrev main_while0b_v145 : Ref sig .tc := ⟨.hbm, 164, rfl⟩
abbrev main_while0b_v146 : Ref sig .tc := ⟨.hbm, 165, rfl⟩
abbrev main_while0b_v147 : Ref sig .tc := ⟨.hbm, 166, rfl⟩
abbrev main_while0b_v148 : Ref sig .tc := ⟨.hbm, 167, rfl⟩
abbrev main_while0b_v149 : Ref sig .tc := ⟨.hbm, 168, rfl⟩
abbrev main_while0b_v150 : Ref sig .tc := ⟨.hbm, 169, rfl⟩
abbrev main_while0b_v151 : Ref sig .tc := ⟨.hbm, 170, rfl⟩
abbrev main_while0b_v152 : Ref sig .tc := ⟨.hbm, 171, rfl⟩
abbrev main_while0b_v153 : Ref sig .tc := ⟨.hbm, 172, rfl⟩
abbrev main_while0b_v154 : Ref sig .tc := ⟨.hbm, 173, rfl⟩
abbrev main_while0b_v155 : Ref sig .tc := ⟨.hbm, 174, rfl⟩
abbrev main_while0b_v156 : Ref sig .tc := ⟨.hbm, 175, rfl⟩
abbrev main_while0b_cst_22 : Ref sig .tc := ⟨.hbm, 176, rfl⟩
abbrev main_while0b_v157 : Ref sig .tc := ⟨.hbm, 177, rfl⟩
abbrev main_while0b_v158 : Ref sig .tc := ⟨.hbm, 178, rfl⟩
abbrev main_while0b_v159 : Ref sig .tc := ⟨.hbm, 179, rfl⟩
abbrev main_while0b_v160 : Ref sig .tc := ⟨.hbm, 180, rfl⟩
abbrev main_while0b_v161 : Ref sig .tc := ⟨.hbm, 181, rfl⟩
abbrev main_while0b_v162 : Ref sig .tc := ⟨.hbm, 182, rfl⟩
abbrev main_while0b_v163 : Ref sig .tc := ⟨.hbm, 183, rfl⟩
abbrev main_while0b_v164 : Ref sig .tc := ⟨.hbm, 184, rfl⟩
abbrev main_while0b_cst_23 : Ref sig .tc := ⟨.hbm, 185, rfl⟩
abbrev main_while0b_v165 : Ref sig .tc := ⟨.hbm, 186, rfl⟩
abbrev main_while0b_v166 : Ref sig .tc := ⟨.hbm, 187, rfl⟩
abbrev main_while0b_v167 : Ref sig .tc := ⟨.hbm, 188, rfl⟩
abbrev main_while0b_v168 : Ref sig .tc := ⟨.hbm, 189, rfl⟩
abbrev main_while0b_v169 : Ref sig .tc := ⟨.hbm, 190, rfl⟩
abbrev main_while0b_v170 : Ref sig .tc := ⟨.hbm, 191, rfl⟩
abbrev main_while0b_v171 : Ref sig .tc := ⟨.hbm, 192, rfl⟩
abbrev main_while0b_v172 : Ref sig .tc := ⟨.hbm, 193, rfl⟩
abbrev main_while0b_v173 : Ref sig .tc := ⟨.hbm, 194, rfl⟩
abbrev main_while0b_v174 : Ref sig .tc := ⟨.hbm, 195, rfl⟩
abbrev main_while0b_v175 : Ref sig .tc := ⟨.hbm, 196, rfl⟩
abbrev main_while0b_v176 : Ref sig .tc := ⟨.hbm, 197, rfl⟩
abbrev main_while0b_call4_v0 : Ref sig .tc := ⟨.hbm, 198, rfl⟩
abbrev main_while0b_call4_c : Ref sig .tc := ⟨.hbm, 199, rfl⟩
abbrev main_while0b_call4_c_0 : Ref sig .tc := ⟨.hbm, 200, rfl⟩
abbrev main_while0b_call4_c_1 : Ref sig .tc := ⟨.hbm, 201, rfl⟩
abbrev main_while0b_call4_c_2 : Ref sig .tc := ⟨.hbm, 202, rfl⟩
abbrev main_while0b_v177 : Ref sig .tc := ⟨.hbm, 203, rfl⟩
abbrev main_while0b_c_24 : Ref sig .tc := ⟨.hbm, 204, rfl⟩
abbrev main_while0b_v178 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_cst_8 : Ref sig .tc := ⟨.hbm, 211, rfl⟩
abbrev main_v93 : Ref sig .tc := ⟨.hbm, 212, rfl⟩
abbrev main_v94 : Ref sig .tc := ⟨.hbm, 213, rfl⟩
abbrev main_cst_9 : Ref sig .tc := ⟨.hbm, 214, rfl⟩
abbrev main_v95 : Ref sig .tc := ⟨.hbm, 215, rfl⟩
abbrev main_v96 : Ref sig .tc := ⟨.hbm, 216, rfl⟩
abbrev main_cst_10 : Ref sig .tc := ⟨.hbm, 217, rfl⟩
abbrev main_v97 : Ref sig .tc := ⟨.hbm, 218, rfl⟩
abbrev main_v98 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_call5_v0 : Ref sig .tc := ⟨.hbm, 226, rfl⟩
abbrev main_call5_v1 : Ref sig .tc := ⟨.hbm, 227, rfl⟩
abbrev main_call5_cst : Ref sig .tc := ⟨.hbm, 228, rfl⟩
abbrev main_call5_v2 : Ref sig .tc := ⟨.hbm, 229, rfl⟩
abbrev main_call5_v3 : Ref sig .tc := ⟨.hbm, 230, rfl⟩
abbrev main_call5_cst_0 : Ref sig .tc := ⟨.hbm, 231, rfl⟩
abbrev main_call5_v4 : Ref sig .tc := ⟨.hbm, 232, rfl⟩
abbrev main_call5_v5 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩

abbrev nD : Nat := 1
abbrev τ : Topo := Topo.v7x

variable {F : FTy → Type} [FloatOps F]

abbrev main_while0_count : Scf.Loop 32 := ⟨0#32, 32#32, 1#32⟩
-- ==== KernelIn.lean ====
abbrev S8192x2048 : Shape := ⟨2, ![8192, 2048]⟩
abbrev S2048 : Shape := ⟨1, ![2048]⟩
abbrev S2048x14336 : Shape := ⟨2, ![2048, 14336]⟩
abbrev S1x2048 : Shape := ⟨2, ![1, 2048]⟩
abbrev S8192x14336 : Shape := ⟨2, ![8192, 14336]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x14336, .f32⟩
  | .hbm, ⟨3, _⟩ => ⟨S2048x14336, .bf16⟩
  | .hbm, ⟨4, _⟩ => ⟨S1x2048, .f32⟩
  | .hbm, ⟨5, _⟩ => ⟨S8192x14336, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .f32⟩
  | .local _ .vmem, ⟨6, _⟩ => ⟨S1024x2048, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S8192x2048 : Shape := ⟨2, ![8192, 2048]⟩
abbrev S2048 : Shape := ⟨1, ![2048]⟩
abbrev S2048x14336 : Shape := ⟨2, ![2048, 14336]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x14336 : Shape := ⟨2, ![8192, 14336]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x14336, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x14336, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelUp.lean ====
abbrev S8192x2048 : Shape := ⟨2, ![8192, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S_ : Shape := ⟨0, ![]⟩
abbrev S2x2x5632 : Shape := ⟨3, ![2, 2, 5632]⟩
abbrev S1x2048 : Shape := ⟨2, ![1, 2048]⟩
abbrev S1x5632 : Shape := ⟨2, ![1, 5632]⟩
abbrev S8192x5632 : Shape := ⟨2, ![8192, 5632]⟩
abbrev S8x2x5632 : Shape := ⟨3, ![8, 2, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S1x2x512 : Shape := ⟨3, ![1, 2, 512]⟩
abbrev S1024x512 : Shape := ⟨2, ![1024, 512]⟩
abbrev S1032x512 : Shape := ⟨2, ![1032, 512]⟩
abbrev S11x8x512 : Shape := ⟨3, ![11, 8, 512]⟩
abbrev S1024 : Shape := ⟨1, ![1024]⟩
abbrev S1024x1 : Shape := ⟨2, ![1024, 1]⟩
abbrev S6x512 : Shape := ⟨2, ![6, 512]⟩
abbrev S2x512 : Shape := ⟨2, ![2, 512]⟩
abbrev S1x8x512 : Shape := ⟨3, ![1, 8, 512]⟩
abbrev S8x512 : Shape := ⟨2, ![8, 512]⟩

abbrev nBuf : Space → Nat
  | .hbm => 13
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S_, .f32⟩
  | .hbm, ⟨6, _⟩ => ⟨S2x2x5632, .f32⟩
  | .hbm, ⟨7, _⟩ => ⟨S2048x11264, .bf16⟩
  | .hbm, ⟨8, _⟩ => ⟨S1x2048, .f32⟩
  | .hbm, ⟨9, _⟩ => ⟨S1x5632, .f32⟩
  | .hbm, ⟨10, _⟩ => ⟨S8192x5632, .bf16⟩
  | .hbm, ⟨11, _⟩ => ⟨S8x2x5632, .f32⟩
  | .hbm, ⟨12, _⟩ => ⟨S2x2x5632, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1x2x512, .f32⟩
  | .local _ .vmem, ⟨12, _⟩ => ⟨S1x2x512, .f32⟩
  | .local _ .vmem, ⟨13, _⟩ => ⟨S1024x512, .bf16⟩
  | .local _ .vmem, ⟨14, _⟩ => ⟨S1024x512, .bf16⟩
  | .local _ .vmem, ⟨15, _⟩ => ⟨S1x2x512, .f32⟩
  | .local _ .vmem, ⟨16, _⟩ => ⟨S1x2x512, .f32⟩
  | .local _ .vmem, ⟨17, _⟩ => ⟨S1024x2048, .bf16⟩
  | .local _ .vmem, ⟨18, _⟩ => ⟨S1032x512, .f32⟩
  | .local _ .vmem, ⟨19, _⟩ => ⟨S11x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 11], ![false, false]⟩

def k0_cond3 (i : grid0.Coords) : BitVec 1 :=
  let arg0 : BitVec 32 := BitVec.ofNat 32 (i 0).val
  let c4_i32 : BitVec 32 := 4#32
  let c0_i32_2 : BitVec 32 := 0#32
  let v4 : BitVec 1 := Scalar.cmpi .eq c4_i32 c0_i32_2
  let c1_i32 : BitVec 32 := 1#32
  let v5 : BitVec 32 := Scalar.select v4 c1_i32 c4_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_6 : BitVec 32 := 0#32
  let v14 : BitVec 1 := Scalar.cmpi .eq v13 c0_i32_6
  let v_true : BitVec 1 := 1#1
  let v17 : BitVec 1 := Scalar.xori v14 v_true
  let v18 : BitVec 32 := Scalar.extui v17
  let c0_i32_8 : BitVec 32 := 0#32
  let v19 : BitVec 1 := Scalar.cmpi .ne v18 c0_i32_8
  v19

def k0_off1 (i : grid0.Coords) : Fin 3 → Nat :=
  let arg1 : BitVec 32 := BitVec.ofNat 32 (i 1).val
  let v63 : Index := Scalar.indexCast arg1
  let c0_35 : Index := 0#32
  let c0_36 : Index := 0#32
  ![v63.toNat, 0, 0]
def k0_off2 (i : grid0.Coords) : Fin 3 → Nat :=
  let arg1 : BitVec 32 := BitVec.ofNat 32 (i 1).val
  let v55 : Index := Scalar.indexCast arg1
  let c0_29 : Index := 0#32
  let c0_30 : Index := 0#32
  ![v55.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceUpIdeal.lean ====
abbrev S8192x2048 : Shape := ⟨2, ![8192, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4096x5632 : Shape := ⟨3, ![2, 4096, 5632]⟩
abbrev S2x2x5632 : Shape := ⟨3, ![2, 2, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S8192x5632 : Shape := ⟨2, ![8192, 5632]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x11264, .f32⟩
  | .hbm, ⟨23, _⟩ => ⟨S2x4096x5632, .f32⟩
  | .hbm, ⟨24, _⟩ => ⟨S2x4096x5632, .f32⟩
  | .hbm, ⟨25, _⟩ => ⟨S_, .f32⟩
  | .hbm, ⟨26, _⟩ => ⟨S2x2x5632, .f32⟩
  | .hbm, ⟨27, _⟩ => ⟨S2x4098x5632, .f32⟩
  | .hbm, ⟨28, _⟩ => ⟨S2x4096x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S2x4096x5632, .f32⟩
  | .hbm, ⟨39, _⟩ => ⟨S2x4096x5632, .f32⟩
  | .hbm, ⟨40, _⟩ => ⟨S2x4096x5632, .f32⟩
  | .hbm, ⟨41, _⟩ => ⟨S2x4096x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S2x4096x5632, .f32⟩
  | .hbm, ⟨46, _⟩ => ⟨S2x4096x5632, .f32⟩
  | .hbm, ⟨47, _⟩ => ⟨S2x4096x5632, .f32⟩
  | .hbm, ⟨48, _⟩ => ⟨S1x1x5632, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S_, .f32⟩
  | .hbm, ⟨54, _⟩ => ⟨S2x4096x5632, .f32⟩
  | .hbm, ⟨55, _⟩ => ⟨S2x4096x5632, .f32⟩
  | .hbm, ⟨56, _⟩ => ⟨S_, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S2x2x5632, .f32⟩
  | .hbm, ⟨62, _⟩ => ⟨S8192x5632, .f32⟩
  | .hbm, ⟨63, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== KernelDown.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelMerge.lean ====
abbrev S8192x1024 : Shape := ⟨2, ![8192, 1024]⟩
abbrev S1024x2048 : Shape := ⟨2, ![1024, 2048]⟩
abbrev S8192x14336 : Shape := ⟨2, ![8192, 14336]⟩
abbrev S6144 : Shape := ⟨1, ![6144]⟩
abbrev S1x6144 : Shape := ⟨2, ![1, 6144]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 13
  | .vmem => 26
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8192x14336, .f32⟩
  | .hbm, ⟨7, _⟩ => ⟨S6144, .f32⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S1x6144, .f32⟩
  | .hbm, ⟨12, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMergeIdeal.lean ====
abbrev S8192x1024 : Shape := ⟨2, ![8192, 1024]⟩
abbrev S1024x2048 : Shape := ⟨2, ![1024, 2048]⟩
abbrev S8192x14336 : Shape := ⟨2, ![8192, 14336]⟩
abbrev S6144 : Shape := ⟨1, ![6144]⟩
abbrev S8192x2048 : Shape := ⟨2, ![8192, 2048]⟩
abbrev S8192x6144 : Shape := ⟨2, ![8192, 6144]⟩
abbrev S1x6144 : Shape := ⟨2, ![1, 6144]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8192x14336, .f32⟩
  | .hbm, ⟨7, _⟩ => ⟨S6144, .f32⟩
  | .hbm, ⟨8, _⟩ => ⟨S8192x1024, .f32⟩
  | .hbm, ⟨9, _⟩ => ⟨S8192x2048, .f32⟩
  | .hbm, ⟨10, _⟩ => ⟨S8192x1024, .f32⟩
  | .hbm, ⟨11, _⟩ => ⟨S8192x2048, .f32⟩
  | .hbm, ⟨12, _⟩ => ⟨S8192x1024, .f32⟩
  | .hbm, ⟨13, _⟩ => ⟨S8192x2048, .f32⟩
  | .hbm, ⟨14, _⟩ => ⟨S8192x6144, .f32⟩
  | .hbm, ⟨15, _⟩ => ⟨S1x6144, .f32⟩
  | .hbm, ⟨16, _⟩ => ⟨S8192x6144, .f32⟩
  | .hbm, ⟨17, _⟩ => ⟨S8192x6144, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S_, .f32⟩
  | .hbm, ⟨24, _⟩ => ⟨S8192x6144, .f32⟩
  | .hbm, ⟨25, _⟩ => ⟨S8192x6144, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelPrep.lean ====
abbrev S8192x14336 : Shape := ⟨2, ![8192, 14336]⟩
abbrev S64 : Shape := ⟨1, ![64]⟩
abbrev S128x128 : Shape := ⟨2, ![128, 128]⟩
abbrev S1x64 : Shape := ⟨2, ![1, 64]⟩
abbrev S16x64 : Shape := ⟨2, ![16, 64]⟩
abbrev S1024 : Shape := ⟨1, ![1024]⟩
abbrev S1x1024 : Shape := ⟨2, ![1, 1024]⟩
abbrev S2x8x16x128x256 : Shape := ⟨5, ![2, 8, 16, 128, 256]⟩
abbrev S8192x1024 : Shape := ⟨2, ![8192, 1024]⟩
abbrev S2x8x16x144x256 : Shape := ⟨5, ![2, 8, 16, 144, 256]⟩
abbrev S256x1024 : Shape := ⟨2, ![256, 1024]⟩
abbrev S1x8x1x128x256 : Shape := ⟨5, ![1, 8, 1, 128, 256]⟩
abbrev S1x8x1x144x256 : Shape := ⟨5, ![1, 8, 1, 144, 256]⟩
abbrev S256x128 : Shape := ⟨2, ![256, 128]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩

abbrev nBuf : Space → Nat
  | .hbm => 17
  | .vmem => 19
  | .smem => 0
  | _ => 0

abbrev bufTy : (tb : Table) → Fin (tcTables nBuf tb) → BufTy
  | .hbm, ⟨0, _⟩ => ⟨S8192x14336, .f32⟩
  | .hbm, ⟨1, _⟩ => ⟨S64, .f32⟩
  | .hbm, ⟨2, _⟩ => ⟨S64, .f32⟩
  | .hbm, ⟨3, _⟩ => ⟨S128x128, .bf16⟩
  | .hbm, ⟨4, _⟩ => ⟨S1x64, .f32⟩
  | .hbm, ⟨5, _⟩ => ⟨S16x64, .f32⟩
  | .hbm, ⟨6, _⟩ => ⟨S1024, .f32⟩
  | .hbm, ⟨7, _⟩ => ⟨S1x1024, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S2x8x16x128x256, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S2x8x16x144x256, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S128x128, .bf16⟩
  | .local _ .vmem, ⟨9, _⟩ => ⟨S1x8x1x128x256, .bf16⟩
  | .local _ .vmem, ⟨10, _⟩ => ⟨S1x8x1x128x256, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x8x1x144x256, .bf16⟩
  | .local _ .vmem, ⟨18, _⟩ => ⟨S1x8x1x144x256, .bf16⟩
  | _, _ => ⟨S8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v8_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1x144x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferencePrepIdeal.lean ====
abbrev S8192x14336 : Shape := ⟨2, ![8192, 14336]⟩
abbrev S64 : Shape := ⟨1, ![64]⟩
abbrev S8192x3072 : Shape := ⟨2, ![8192, 3072]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩

abbrev nBuf : Space → Nat
  | .hbm => 25
  | .vmem => 0
  | .smem => 0
  | _ => 0

abbrev bufTy : (tb : Table) → Fin (tcTables nBuf tb) → BufTy
  | .hbm, ⟨0, _⟩ => ⟨S8192x14336, .f32⟩
  | .hbm, ⟨1, _⟩ => ⟨S64, .f32⟩
  | .hbm, ⟨2, _⟩ => ⟨S64, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x16x64, .f32⟩
  | .hbm, ⟨8, _⟩ => ⟨S8192x16x64, .f32⟩
  | .hbm, ⟨9, _⟩ => ⟨S_, .f32⟩
  | .hbm, ⟨10, _⟩ => ⟨S8192x16, .f32⟩
  | .hbm, ⟨11, _⟩ => ⟨S8192x16x1, .f32⟩
  | .hbm, ⟨12, _⟩ => ⟨S_, .f32⟩
  | .hbm, ⟨13, _⟩ => ⟨S8192x16x1, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S8192x16x1, .f32⟩
  | .hbm, ⟨19, _⟩ => ⟨S8192x16x64, .f32⟩
  | .hbm, ⟨20, _⟩ => ⟨S8192x16x64, .f32⟩
  | .hbm, ⟨21, _⟩ => ⟨S1x1x64, .f32⟩
  | .hbm, ⟨22, _⟩ => ⟨S8192x16x64, .f32⟩
  | .hbm, ⟨23, _⟩ => ⟨S8192x16x64, .f32⟩
  | .hbm, ⟨24, _⟩ => ⟨S8192x1024, .f32⟩
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Constants.lean ====
module

public import proofs.«01_k».proof.Defs

/-! The retention kernel's rewritten constants: each printed literal is the named value. -/

@[expose] public section

set_option maxRecDepth 16384

noncomputable section

namespace Cert.Proof.Constants

open Idealize.ShloMosaic

/-- Every literal the rewriting names is the value its name stands for: the logarithms of the heads' decays and the
    decays over one chunk. -/
theorem preserves : Cert.preserves_Kernel_KernelIdeal :=
  ⟨IdealRules.named_const.statement _ "lg0" .f32 0xBD020AEC#32 _ rfl,
    IdealRules.named_const.statement _ "lg1" .f32 0xBC8102B3#32 _ rfl,
    IdealRules.named_const.statement _ "lg2" .f32 0xBC0080AC#32 _ rfl,
    IdealRules.named_const.statement _ "lg3" .f32 0xBB80402B#32 _ rfl,
    IdealRules.named_const.statement _ "lg4" .f32 0xBB00200B#32 _ rfl,
    IdealRules.named_const.statement _ "lg5" .f32 0xBA801003#32 _ rfl,
    IdealRules.named_const.statement _ "lg6" .f32 0xBA000801#32 _ rfl,
    IdealRules.named_const.statement _ "lg7" .f32 0xB9800400#32 _ rfl,
    IdealRules.named_const.statement _ "gc0" .f32 0x3C8CC36A#32 _ rfl,
    IdealRules.named_const.statement _ "gc1" .f32 0x3E08698E#32 _ rfl,
    IdealRules.named_const.statement _ "gc2" .f32 0x3EBB9DB9#32 _ rfl,
    IdealRules.named_const.statement _ "gc3" .f32 0x3F1B1EB1#32 _ rfl,
    IdealRules.named_const.statement _ "gc4" .f32 0x3F475303#32 _ rfl,
    IdealRules.named_const.statement _ "gc5" .f32 0x3F61E7C9#32 _ rfl,
    IdealRules.named_const.statement _ "gc6" .f32 0x3F707C6F#32 _ rfl,
    IdealRules.named_const.statement _ "gc7" .f32 0x3F781F6D#32 _ rfl⟩

end Cert.Proof.Constants

end
-- ==== Proof.InValue.lean ====
module

public import proofs.«01_k».proof.Proof.Gen.KernelInIdeal.Value
public import proofs.«01_k».proof.Proof.Gen.ReferenceInIdeal.Run
public import Idealize.ShloMosaic.Lib.Pipeline.ValueKit
public import Idealize.ShloMosaic.Lib.Pipeline.ReadBack

/-! The normalised input projection: the value of the idealized kernel's result array. The first point of a row of
    tiles normalises its rows into a scratch block, which the row's other points read. -/

@[expose] public section

set_option maxRecDepth 16384

noncomputable section

open Idealize.ShloMosaic Idealize.ShloMosaic.TcCoe Idealize.SL.Sem
open Idealize.ShloMosaic.Pipeline (Dat)

namespace Cert.InValue

open Cert.KernelInIdeal Cert.KernelInIdeal.Gen

variable (m : (ℓ : Loc nD τ sig) → Buf (Elt Ideal) ℓ)

/-- The reference's normalised rows. -/
abbrev NORM (x : FVec Ideal S8192x2048 .f32) (g : FVec Ideal S2048 .f32) : FVec Ideal S8192x2048 .f32 :=
  mulf (mulf x (broadcastInDim Cert.ReferenceInIdeal.S8192x2048 ![0, 1] Cert.ReferenceInIdeal.Gen.bcast_S8192x1_S8192x2048_0_1
    (Host.rsqrt (addf (Host.divf (broadcastInDim Cert.ReferenceInIdeal.S8192x1 ![0] Cert.ReferenceInIdeal.Gen.bcast_S8192_S8192x1_0
      (Host.reduceAdd (mulf x x) (constant Cert.ReferenceInIdeal.S_ .f32 0x00000000#32)
        Cert.ReferenceInIdeal.Gen.reducesTo_S8192x2048_S8192_d1 Cert.ReferenceInIdeal.Gen.h_S_))
      (broadcastInDim Cert.ReferenceInIdeal.S8192x1 ![] Cert.ReferenceInIdeal.Gen.bcast_S_S8192x1
        (constant Cert.ReferenceInIdeal.S_ .f32 0x45000000#32)))
      (broadcastInDim Cert.ReferenceInIdeal.S8192x1 ![] Cert.ReferenceInIdeal.Gen.bcast_S_S8192x1
        (constant Cert.ReferenceInIdeal.S_ .f32 0x358637BD#32))))))
    (broadcastInDim Cert.ReferenceInIdeal.S8192x2048 ![0, 1] Cert.ReferenceInIdeal.Gen.bcast_S1x2048_S8192x2048_0_1
      (broadcastInDim Cert.ReferenceInIdeal.S1x2048 ![1] Cert.ReferenceInIdeal.Gen.bcast_S2048_S1x2048_1 g))

/-- The reference's result as one term of its three arguments. -/
abbrev REF (x : FVec Ideal S8192x2048 .f32) (g : FVec Ideal S2048 .f32) (w : FVec Ideal S2048x14336 .f32) :
    FVec Ideal S8192x14336 .f32 :=
  Host.dotGeneral Cert.ReferenceInIdeal.dot_S8192x2048_S2048x14336_S8192x14336_1_0_0_1_n_n none (NORM x g) w

/-- The block index of each window at every grid point. -/
theorem idx : ∀ t : Fin cfg0.N, win0_0.index t = ![t.val / 7, 0] ∧
    win0_1.index t = ![0, 0] ∧
    win0_2.index t = ![0, t.val % 7] ∧ win0_3.index t = ![t.val / 7, t.val % 7] :=
  (by decide +kernel : ∀ t : Fin grid0.N, _)

/-- The rows the first point of a row of tiles normalises are the reference's normalised rows. -/
theorem norm_at (c : Dev nD) (t : Fin cfg0.N) (y : S1024x2048.Idx) (r : Fin 8192) (k : Fin 2048)
    (hr : r.val = t.val / 7 * 1024 + (y 0).val) (hk : k.val = (y 1).val) :
    k0_pay1 (iblk m c 0 t) (iblk m c 1 t) y
      = NORM (m ((c : Thread nD τ).loc main_arg0)) (m ((c : Thread nD τ).loc main_arg1)) (ix2 r k) := by
  pointwise [k0_pay1, NORM]
  blk_point [iblk, V, idx t]

/-- After every point the scratch block holds the normalised rows of the point's row of tiles. -/
theorem scratch (c : Dev nD) (n : ℕ) : ∀ (hn : n < cfg0.N) (y : S1024x2048.Idx) (r : Fin 8192) (k : Fin 2048)
    (hr : r.val = n / 7 * 1024 + (y 0).val) (hk : k.val = (y 1).val),
    (outsAt0 m c n hn).2 y
      = NORM (m ((c : Thread nD τ).loc main_arg0)) (m ((c : Thread nD τ).loc main_arg1)) (ix2 r k) := by
  induction n with
  | zero =>
    intro hn y r k hr hk
    have e := outsAt0_A m c ⟨0, hn⟩ rfl
    dsimp only at e
    rw [e]
    frame_out
    exact norm_at m c ⟨0, hn⟩ y r k hr hk
  | succ n ih =>
    intro hn y r k hr hk
    by_cases h0 : (n + 1) % 7 = 0
    · have e := outsAt0_A m c ⟨n + 1, hn⟩ h0
      dsimp only at e
      rw [e]
      frame_out
      exact norm_at m c ⟨n + 1, hn⟩ y r k hr hk
    · have e := outsAt0_B m c ⟨n + 1, hn⟩ h0
      dsimp only at e
      rw [e]
      frame_out
      exact ih (Nat.lt_of_succ_lt hn) y r k (by omega) hk

/-- What a point stores at an element of its block is the reference's result at the element's place in the array,
    provided the rows it multiplies are the reference's normalised rows. -/
theorem point (c : Dev nD) (t : Fin cfg0.N) (s : FVec Ideal S1024x2048 .bf16)
    (hs : ∀ (y : S1024x2048.Idx) (r : Fin 8192) (k : Fin 2048)
      (hr : r.val = t.val / 7 * 1024 + (y 0).val) (hk : k.val = (y 1).val),
      s y = NORM (m ((c : Thread nD τ).loc main_arg0)) (m ((c : Thread nD τ).loc main_arg1)) (ix2 r k)) (y) :
    k0_pay2 (iblk m c 2 t) s y
    = REF (m ((c : Thread nD τ).loc main_arg0)) (m ((c : Thread nD τ).loc main_arg1))
        (m ((c : Thread nD τ).loc main_arg2)) (((cfg0.win 3).blk t).view.emb y) := by
  have hR : ∀ (N : FVec Ideal S8192x2048 .f32),
      (∀ (y : S1024x2048.Idx) (r : Fin 8192) (k : Fin 2048)
        (hr : r.val = t.val / 7 * 1024 + (y 0).val) (hk : k.val = (y 1).val), s y = N (ix2 r k)) →
      k0_pay2 (iblk m c 2 t) s y = (Host.dotGeneral (F := Ideal) (φ₁ := .f32) (φ₂ := .f32)
        Cert.ReferenceInIdeal.dot_S8192x2048_S2048x14336_S8192x14336_1_0_0_1_n_n none N
        (m ((c : Thread nD τ).loc main_arg2))) (((cfg0.win 3).blk t).view.emb y) := by
    intro N hN
    pointwise [k0_pay2]
    refine Finset.sum_congr rfl fun k _ => ?_
    congr 1
    · refine hN _ _ _ ?_ ?_ <;> blk_simp [idx t]
    · blk_ext! [iblk, V, idx t]
  exact hR _ hs

/-- The result array after the run is the reference's result of the same arguments. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  by_cases h0 : t.val % 7 = 0
  · rw [outsAt0_A m c t h0]
    frame_out
    exact point m c t _ (fun y r k hr hk => norm_at m c t y r k hr hk) y
  · rw [outsAt0_B m c t h0]
    frame_out
    simp only [read_unread_whole]
    exact point m c t _ (fun y r k hr hk => scratch m c _ _ y r k (by omega) hk) y

end Cert.InValue

end
-- ==== Proof.DownValue.lean ====
module

public import proofs.«01_k».proof.Proof.Gen.KernelDownIdeal.Value
public import proofs.«01_k».proof.Proof.Gen.ReferenceDownIdeal.Run
public import Idealize.ShloMosaic.Lib.Pipeline.ValueKit
public import Idealize.ShloMosaic.Lib.Pipeline.ReadBack

/-! The feed-forward block's second product with its residual: the value of the idealized kernel's result array.
    The kernel contracts the 5632 columns in two halves, kept in a scratch block between two grid points. -/

@[expose] public section

set_option maxRecDepth 16384

noncomputable section

open Idealize.ShloMosaic Idealize.ShloMosaic.TcCoe Idealize.SL.Sem
open Idealize.ShloMosaic.Pipeline (Dat)

namespace Cert.DownValue

open Cert.KernelDownIdeal Cert.KernelDownIdeal.Gen

variable (m : (ℓ : Loc nD τ sig) → Buf (Elt Ideal) ℓ)

/-- The reference's result as one term of its three arguments: the residual plus the whole product. -/
abbrev REF (a : FVec Ideal S8192x5632 .bf16) (w : FVec Ideal S5632x2048 .f32) (x : FVec Ideal S8192x2048 .f32) :
    FVec Ideal S8192x2048 .f32 :=
  addf x (Host.dotGeneral Cert.ReferenceDownIdeal.dot_S8192x5632_S5632x2048_S8192x2048_1_0_0_1_n_n none
    (extf .f32 a Cert.ReferenceDownIdeal.Gen.bitsLt_bf16_f32) w)

/-- The block index of each window at every grid point. -/
theorem idx : ∀ t : Fin cfg0.N, win0_0.index t = ![t.val / 4, t.val % 2] ∧
    win0_1.index t = ![t.val % 2, t.val / 2 % 2] ∧
    win0_2.index t = ![t.val / 4, t.val / 2 % 2] ∧ win0_3.index t = ![t.val / 4, t.val / 2 % 2] :=
  (by decide +kernel : ∀ t : Fin grid0.N, _)

/-- The result at an element: the residual plus the two halves of the contraction. -/
theorem ref_at (a : FVec Ideal S8192x5632 .bf16) (w : FVec Ideal S5632x2048 .f32) (x : FVec Ideal S8192x2048 .f32)
    (r : Fin 8192) (j : Fin 2048) :
    REF a w x (ix2 r j) = x (ix2 r j) +
      ((∑ k : Fin 2816, a (ix2 r ⟨k.val, by omega⟩) * w (ix2 ⟨k.val, by omega⟩ j))
        + ∑ k : Fin 2816, a (ix2 r ⟨2816 + k.val, by omega⟩) * w (ix2 ⟨2816 + k.val, by omega⟩ j)) := by
  pointwise [REF]
  congr 1
  exact Fin.sum_univ_add (a := 2816) (b := 2816) (fun k => a (ix2 r k) * w (ix2 k j))

/-- After the first of a pair of points the scratch block holds that point's half of the product. -/
theorem scratch_first (c : Dev nD) (t : Fin cfg0.N) (h0 : t.val % 2 = 0) (y) :
    (outsAt0 m c t.val t.isLt).2 y = k0_pay2 (iblk m c 1 t) (iblk m c 0 t) y := by
  rw [outsAt0_A m c t h0 (by omega)]
  frame_out

/-- What the second of a pair of points stores at an element of its block, the scratch block holding the first
    point's half, is the reference's result at the element's place in the array. -/
theorem point (c : Dev nD) (t t' : Fin cfg0.N) (hm : t.val % 2 = 1) (ht : t'.val + 1 = t.val) (y) :
    k0_pay4 (iblk m c 1 t) (iblk m c 0 t) (iblk m c 2 t) (k0_pay2 (iblk m c 1 t') (iblk m c 0 t')) y
    = REF (m ((c : Thread nD τ).loc main_arg0)) (m ((c : Thread nD τ).loc main_arg1))
        (m ((c : Thread nD τ).loc main_arg2)) (((cfg0.win 3).blk t).view.emb y) := by
  have h2 : t'.val / 4 = t.val / 4 := by omega
  have h3 : t'.val / 2 % 2 = t.val / 2 % 2 := by omega
  have h4 : t'.val % 2 = 0 := by omega
  rw [eq_ix2 (((cfg0.win 3).blk t).view.emb y)]
  refine Eq.trans ?_ (ref_at _ _ _ _ _).symm
  pointwise [k0_pay4, k0_pay2, k0_pay1]
  blk_point [iblk, V, idx t, idx t', h2, h3, h4, hm]

/-- The result array after the run is the reference's result of the same arguments. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t hf y => ?_
  have hm : t.val % 2 = 1 := (flush0_3 t).mp hf
  blk_simp
  rw [after0_3, outsAt0_B m c t (by omega) hm]
  frame_out
  simp only [read_unread_whole]
  have hp : t.val - 1 < cfg0.N := Nat.lt_of_le_of_lt (Nat.sub_le _ _) t.isLt
  have hs : (outsAt0 m c (t.val - 1) hp).2 = k0_pay2 (iblk m c 1 ⟨t.val - 1, hp⟩) (iblk m c 0 ⟨t.val - 1, hp⟩) :=
    funext fun z => scratch_first m c ⟨t.val - 1, hp⟩ (by show (t.val - 1) % 2 = 0; omega) z
  rw [hs]
  exact point m c t ⟨t.val - 1, hp⟩ hm (by show t.val - 1 + 1 = t.val; omega) y

end Cert.DownValue

end
-- ==== Proof.MergeValue.lean ====
module

public import proofs.«01_k».proof.Proof.Gen.KernelMergeIdeal.Frame
public import proofs.«01_k».proof.Proof.Gen.ReferenceMergeIdeal.Run
public import Idealize.ShloMosaic.Lib.Pipeline.ValueKit

/-! The gated sum of the three branches' output projections: the value of the idealized kernel's result array. -/

@[expose] public section

set_option maxRecDepth 16384

noncomputable section

open Idealize.ShloMosaic Idealize.ShloMosaic.TcCoe Idealize.SL.Sem
open Idealize.ShloMosaic.Pipeline (Dat)

namespace Cert.MergeValue

open Cert.KernelMergeIdeal Cert.KernelMergeIdeal.Gen

variable (m : (ℓ : Loc nD τ sig) → Buf (Elt Ideal) ℓ)

/-- The reference's gates: the logistic function of the projection's last columns plus the bias. -/
abbrev GATE (p : FVec Ideal S8192x14336 .f32) (b : FVec Ideal S6144 .f32) : FVec Ideal Cert.ReferenceMergeIdeal.S8192x6144 .f32 :=
  Host.divf (broadcastInDim Cert.ReferenceMergeIdeal.S8192x6144 ![] Cert.ReferenceMergeIdeal.Gen.bcast_S_S8192x6144
      (constant Cert.ReferenceMergeIdeal.S_ .f32 0x3F800000#32))
    (addf (broadcastInDim Cert.ReferenceMergeIdeal.S8192x6144 ![] Cert.ReferenceMergeIdeal.Gen.bcast_S_S8192x6144
        (constant Cert.ReferenceMergeIdeal.S_ .f32 0x3F800000#32))
      (Host.exp (Host.negf (addf
        (extractStridedSlice Cert.ReferenceMergeIdeal.S8192x6144 ![0, 8192] p
          Cert.ReferenceMergeIdeal.Gen.slices_S8192x14336_S8192x6144_0_8192)
        (broadcastInDim Cert.ReferenceMergeIdeal.S8192x6144 ![0, 1] Cert.ReferenceMergeIdeal.Gen.bcast_S1x6144_S8192x6144_0_1
          (broadcastInDim Cert.ReferenceMergeIdeal.S1x6144 ![1] Cert.ReferenceMergeIdeal.Gen.bcast_S6144_S1x6144_1 b))))))

/-- One branch's output projection in the reference. -/
abbrev PROD (a : FVec Ideal S8192x1024 .bf16) (w : FVec Ideal S1024x2048 .f32) : FVec Ideal S8192x2048 .f32 :=
  Host.dotGeneral Cert.ReferenceMergeIdeal.dot_S8192x1024_S1024x2048_S8192x2048_1_0_0_1_n_n none
    (extf .f32 a Cert.ReferenceMergeIdeal.Gen.bitsLt_bf16_f32) w

/-- The reference's result as one term of its eight arguments. -/
abbrev REF (a0 a1 a2 : FVec Ideal S8192x1024 .bf16) (w0 w1 w2 : FVec Ideal S1024x2048 .f32)
    (p : FVec Ideal S8192x14336 .f32) (b : FVec Ideal S6144 .f32) : FVec Ideal S8192x2048 .bf16 :=
  truncf .bf16 (addf (addf
    (mulf (extractStridedSlice Cert.ReferenceMergeIdeal.S8192x2048 ![0, 0] (GATE p b)
      Cert.ReferenceMergeIdeal.Gen.slices_S8192x6144_S8192x2048_0_0) (PROD a0 w0))
    (mulf (extractStridedSlice Cert.ReferenceMergeIdeal.S8192x2048 ![0, 2048] (GATE p b)
      Cert.ReferenceMergeIdeal.Gen.slices_S8192x6144_S8192x2048_0_2048) (PROD a1 w1)))
    (mulf (extractStridedSlice Cert.ReferenceMergeIdeal.S8192x2048 ![0, 4096] (GATE p b)
      Cert.ReferenceMergeIdeal.Gen.slices_S8192x6144_S8192x2048_0_4096) (PROD a2 w2)))
    Cert.ReferenceMergeIdeal.Gen.bitsLt_bf16_f32

/-- The block index of window 0 at every grid point. -/
theorem idx0 : ∀ t : Fin cfg0.N, win0_0.index t = ![t.val % 16, 0] :=
  (by decide +kernel : ∀ t : Fin grid0.N, _)

/-- The block index of window 1 at every grid point. -/
theorem idx1 : ∀ t : Fin cfg0.N, win0_1.index t = ![t.val % 16, 0] :=
  (by decide +kernel : ∀ t : Fin grid0.N, _)

/-- The block index of window 2 at every grid point. -/
theorem idx2 : ∀ t : Fin cfg0.N, win0_2.index t = ![t.val % 16, 0] :=
  (by decide +kernel : ∀ t : Fin grid0.N, _)

/-- The block index of window 3 at every grid point. -/
theorem idx3 : ∀ t : Fin cfg0.N, win0_3.index t = ![0, t.val / 16] :=
  (by decide +kernel : ∀ t : Fin grid0.N, _)

/-- The block index of window 4 at every grid point. -/
theorem idx4 : ∀ t : Fin cfg0.N, win0_4.index t = ![0, t.val / 16] :=
  (by decide +kernel : ∀ t : Fin grid0.N, _)

/-- The block index of window 5 at every grid point. -/
theorem idx5 : ∀ t : Fin cfg0.N, win0_5.index t = ![0, t.val / 16] :=
  (by decide +kernel : ∀ t : Fin grid0.N, _)

/-- The block index of window 6 at every grid point. -/
theorem idx6 : ∀ t : Fin cfg0.N, win0_6.index t = ![t.val % 16, 8 + t.val / 16] :=
  (by decide +kernel : ∀ t : Fin grid0.N, _)

/-- The block index of window 7 at every grid point. -/
theorem idx7 : ∀ t : Fin cfg0.N, win0_7.index t = ![t.val % 16, 10 + t.val / 16] :=
  (by decide +kernel : ∀ t : Fin grid0.N, _)

/-- The block index of window 8 at every grid point. -/
theorem idx8 : ∀ t : Fin cfg0.N, win0_8.index t = ![t.val % 16, 12 + t.val / 16] :=
  (by decide +kernel : ∀ t : Fin grid0.N, _)

/-- The block index of window 9 at every grid point. -/
theorem idx9 : ∀ t : Fin cfg0.N, win0_9.index t = ![0, t.val / 16] :=
  (by decide +kernel : ∀ t : Fin grid0.N, _)

/-- The block index of window 10 at every grid point. -/
theorem idx10 : ∀ t : Fin cfg0.N, win0_10.index t = ![0, 2 + t.val / 16] :=
  (by decide +kernel : ∀ t : Fin grid0.N, _)

/-- The block index of window 11 at every grid point. -/
theorem idx11 : ∀ t : Fin cfg0.N, win0_11.index t = ![0, 4 + t.val / 16] :=
  (by decide +kernel : ∀ t : Fin grid0.N, _)

/-- The block index of window 12 at every grid point. -/
theorem idx12 : ∀ t : Fin cfg0.N, win0_12.index t = ![t.val % 16, t.val / 16] :=
  (by decide +kernel : ∀ t : Fin grid0.N, _)

/-- The reference's gate at an element. -/
theorem gate_at (p : FVec Ideal S8192x14336 .f32) (b : FVec Ideal S6144 .f32) (r : Fin 8192) (j : Fin 6144) :
    GATE p b (ix2 r j) = Ideal.logistic (p (ix2 r ⟨8192 + j.val, by omega⟩) + b (ix1 j)) := by
  pointwise [GATE, Ideal.logistic]

/-- The reference's result at an element: the three gated products, added in order. -/
theorem ref_at (a0 a1 a2 : FVec Ideal S8192x1024 .bf16) (w0 w1 w2 : FVec Ideal S1024x2048 .f32)
    (p : FVec Ideal S8192x14336 .f32) (b : FVec Ideal S6144 .f32) (r : Fin 8192) (j : Fin 2048) :
    REF a0 a1 a2 w0 w1 w2 p b (ix2 r j)
      = Ideal.logistic (p (ix2 r ⟨8192 + j.val, by omega⟩) + b (ix1 ⟨j.val, by omega⟩)) * (∑ k : Fin 1024, a0 (ix2 r k) * w0 (ix2 k j))
        + Ideal.logistic (p (ix2 r ⟨10240 + j.val, by omega⟩) + b (ix1 ⟨2048 + j.val, by omega⟩)) * (∑ k : Fin 1024, a1 (ix2 r k) * w1 (ix2 k j))
        + Ideal.logistic (p (ix2 r ⟨12288 + j.val, by omega⟩) + b (ix1 ⟨4096 + j.val, by omega⟩)) * (∑ k : Fin 1024, a2 (ix2 r k) * w2 (ix2 k j)) := by
  have h : ∀ G : FVec Ideal Cert.ReferenceMergeIdeal.S8192x6144 .f32,
      (truncf .bf16 (addf (addf
        (mulf (extractStridedSlice Cert.ReferenceMergeIdeal.S8192x2048 ![0, 0] G
          Cert.ReferenceMergeIdeal.Gen.slices_S8192x6144_S8192x2048_0_0) (PROD a0 w0))
        (mulf (extractStridedSlice Cert.ReferenceMergeIdeal.S8192x2048 ![0, 2048] G
          Cert.ReferenceMergeIdeal.Gen.slices_S8192x6144_S8192x2048_0_2048) (PROD a1 w1)))
        (mulf (extractStridedSlice Cert.ReferenceMergeIdeal.S8192x2048 ![0, 4096] G
          Cert.ReferenceMergeIdeal.Gen.slices_S8192x6144_S8192x2048_0_4096) (PROD a2 w2)))
        Cert.ReferenceMergeIdeal.Gen.bitsLt_bf16_f32 : FVec Ideal S8192x2048 .bf16) (ix2 r j)
      = G (ix2 r ⟨j.val, by omega⟩) * (∑ k : Fin 1024, a0 (ix2 r k) * w0 (ix2 k j))
        + G (ix2 r ⟨2048 + j.val, by omega⟩) * (∑ k : Fin 1024, a1 (ix2 r k) * w1 (ix2 k j))
        + G (ix2 r ⟨4096 + j.val, by omega⟩) * (∑ k : Fin 1024, a2 (ix2 r k) * w2 (ix2 k j)) := by
    intro G
    pointwise [PROD]
  refine (h (GATE p b)).trans ?_
  rw [gate_at, gate_at, gate_at]
  blk_point []

/-- What the kernel's body computes at an element of its block: the three gated products, added in order. -/
theorem pay_at (v0 v2 v4 : FVec Ideal S1024x1024 .bf16) (v6 v15 v25 : FVec Ideal S512x1024 .bf16)
    (v8 v17 v27 : FVec Ideal S512x1024 .f32) (v9 v18 v28 : FVec Ideal S1x1024 .f32) (i : Fin 512) (j : Fin 1024) :
    k0_pay1 (F := Ideal) (k0_pay2 v0 v2 v6 v8 v9 v15 v17 v18) (k0_pay3 v4 v25) v27 (k0_pay4 v28) (ix2 i j)
      = Ideal.logistic (v8 (ix2 i j) + v9 (ix2 0 j)) * (∑ k : Fin 1024, v6 (ix2 i k) * v0 (ix2 k j))
        + Ideal.logistic (v17 (ix2 i j) + v18 (ix2 0 j)) * (∑ k : Fin 1024, v15 (ix2 i k) * v2 (ix2 k j))
        + Ideal.logistic (v27 (ix2 i j) + v28 (ix2 0 j)) * (∑ k : Fin 1024, v25 (ix2 i k) * v4 (ix2 k j)) := by
  have h2 : k0_pay2 (F := Ideal) v0 v2 v6 v8 v9 v15 v17 v18 (ix2 i j)
      = Ideal.logistic (v8 (ix2 i j) + v9 (ix2 0 j)) * (∑ k : Fin 1024, v6 (ix2 i k) * v0 (ix2 k j))
        + Ideal.logistic (v17 (ix2 i j) + v18 (ix2 0 j)) * (∑ k : Fin 1024, v15 (ix2 i k) * v2 (ix2 k j)) := by
    pointwise [k0_pay2]
  have h3 : k0_pay3 (F := Ideal) v4 v25 (ix2 i j) = ∑ k : Fin 1024, v25 (ix2 i k) * v4 (ix2 k j) := by
    pointwise [k0_pay3]
  have h4 : k0_pay4 (F := Ideal) v28 (ix2 i j) = v28 (ix2 0 j) := by
    pointwise [k0_pay4]
  rw [← h2, ← h3, ← h4]
  pointwise [k0_pay1]

/-- What window 0 stages, read at the element's place in its array. -/
theorem rd0 (c : Dev nD) (t : Fin cfg0.N) (i : Fin 512) (j : Fin 1024) (r : Fin 8192) (k : Fin 1024)
    (hr : r.val = t.val % 16 * 512 + i.val) (hk : k.val = j.val) :
    iblk m c 0 t (ix2 i j) = m ((c : Thread nD τ).loc main_arg0) (ix2 r k) := by
  blk_ext! [iblk, V, idx0 t]

/-- What window 1 stages, read at the element's place in its array. -/
theorem rd1 (c : Dev nD) (t : Fin cfg0.N) (i : Fin 512) (j : Fin 1024) (r : Fin 8192) (k : Fin 1024)
    (hr : r.val = t.val % 16 * 512 + i.val) (hk : k.val = j.val) :
    iblk m c 1 t (ix2 i j) = m ((c : Thread nD τ).loc main_arg1) (ix2 r k) := by
  blk_ext! [iblk, V, idx1 t]

/-- What window 2 stages, read at the element's place in its array. -/
theorem rd2 (c : Dev nD) (t : Fin cfg0.N) (i : Fin 512) (j : Fin 1024) (r : Fin 8192) (k : Fin 1024)
    (hr : r.val = t.val % 16 * 512 + i.val) (hk : k.val = j.val) :
    iblk m c 2 t (ix2 i j) = m ((c : Thread nD τ).loc main_arg2) (ix2 r k) := by
  blk_ext! [iblk, V, idx2 t]

/-- What window 3 stages, read at the element's place in its array. -/
theorem rd3 (c : Dev nD) (t : Fin cfg0.N) (i : Fin 1024) (j : Fin 1024) (r : Fin 1024) (k : Fin 2048)
    (hr : r.val = i.val) (hk : k.val = t.val / 16 * 1024 + j.val) :
    iblk m c 3 t (ix2 i j) = m ((c : Thread nD τ).loc main_arg3) (ix2 r k) := by
  blk_ext! [iblk, V, idx3 t]

/-- What window 4 stages, read at the element's place in its array. -/
theorem rd4 (c : Dev nD) (t : Fin cfg0.N) (i : Fin 1024) (j : Fin 1024) (r : Fin 1024) (k : Fin 2048)
    (hr : r.val = i.val) (hk : k.val = t.val / 16 * 1024 + j.val) :
    iblk m c 4 t (ix2 i j) = m ((c : Thread nD τ).loc main_arg4) (ix2 r k) := by
  blk_ext! [iblk, V, idx4 t]

/-- What window 5 stages, read at the element's place in its array. -/
theorem rd5 (c : Dev nD) (t : Fin cfg0.N) (i : Fin 1024) (j : Fin 1024) (r : Fin 1024) (k : Fin 2048)
    (hr : r.val = i.val) (hk : k.val = t.val / 16 * 1024 + j.val) :
    iblk m c 5 t (ix2 i j) = m ((c : Thread nD τ).loc main_arg5) (ix2 r k) := by
  blk_ext! [iblk, V, idx5 t]

/-- What window 6 stages, read at the element's place in its array. -/
theorem rd6 (c : Dev nD) (t : Fin cfg0.N) (i : Fin 512) (j : Fin 1024) (r : Fin 8192) (k : Fin 14336)
    (hr : r.val = t.val % 16 * 512 + i.val) (hk : k.val = (8 + t.val / 16) * 1024 + j.val) :
    iblk m c 6 t (ix2 i j) = m ((c : Thread nD τ).loc main_arg6) (ix2 r k) := by
  blk_ext! [iblk, V, idx6 t]

/-- What window 7 stages, read at the element's place in its array. -/
theorem rd7 (c : Dev nD) (t : Fin cfg0.N) (i : Fin 512) (j : Fin 1024) (r : Fin 8192) (k : Fin 14336)
    (hr : r.val = t.val % 16 * 512 + i.val) (hk : k.val = (10 + t.val / 16) * 1024 + j.val) :
    iblk m c 7 t (ix2 i j) = m ((c : Thread nD τ).loc main_arg6) (ix2 r k) := by
  blk_ext! [iblk, V, idx7 t]

/-- What window 8 stages, read at the element's place in its array. -/
theorem rd8 (c : Dev nD) (t : Fin cfg0.N) (i : Fin 512) (j : Fin 1024) (r : Fin 8192) (k : Fin 14336)
    (hr : r.val = t.val % 16 * 512 + i.val) (hk : k.val = (12 + t.val / 16) * 1024 + j.val) :
    iblk m c 8 t (ix2 i j) = m ((c : Thread nD τ).loc main_arg6) (ix2 r k) := by
  blk_ext! [iblk, V, idx8 t]

/-- What window 9 stages, read at the element's place in its array. -/
theorem rd9 (c : Dev nD) (t : Fin cfg0.N) (j : Fin 1024) (k : Fin 6144)
    (hk : k.val = t.val / 16 * 1024 + j.val) :
    iblk m c 9 t (ix2 0 j) = m ((c : Thread nD τ).loc main_arg7) (ix1 k) := by
  blk_ext! [iblk, V, idx9 t]

/-- What window 10 stages, read at the element's place in its array. -/
theorem rd10 (c : Dev nD) (t : Fin cfg0.N) (j : Fin 1024) (k : Fin 6144)
    (hk : k.val = (2 + t.val / 16) * 1024 + j.val) :
    iblk m c 10 t (ix2 0 j) = m ((c : Thread nD τ).loc main_arg7) (ix1 k) := by
  blk_ext! [iblk, V, idx10 t]

/-- What window 11 stages, read at the element's place in its array. -/
theorem rd11 (c : Dev nD) (t : Fin cfg0.N) (j : Fin 1024) (k : Fin 6144)
    (hk : k.val = (4 + t.val / 16) * 1024 + j.val) :
    iblk m c 11 t (ix2 0 j) = m ((c : Thread nD τ).loc main_arg7) (ix1 k) := by
  blk_ext! [iblk, V, idx11 t]

/-- Where an element of the result's block sits in the array: its row. -/
theorem row12 (t : Fin cfg0.N) (y : S512x1024.Idx) :
    ((((cfg0.win 12).blk t).view.emb y) 0 : ℕ) = t.val % 16 * 512 + (y 0).val := by
  blk_simp [idx12 t]

/-- Where an element of the result's block sits in the array: its column. -/
theorem col12 (t : Fin cfg0.N) (y : S512x1024.Idx) :
    ((((cfg0.win 12).blk t).view.emb y) 1 : ℕ) = t.val / 16 * 1024 + (y 1).val := by
  blk_simp [idx12 t]

/-- What the body stores at an element of its block is the reference's result at the element's place in the array. -/
theorem point (c : Dev nD) (t : Fin cfg0.N) (y) :
    k0_pay1 (F := Ideal) (k0_pay2 (iblk m c 3 t) (iblk m c 4 t) (iblk m c 0 t) (iblk m c 6 t) (iblk m c 9 t) (iblk m c 1 t)
      (iblk m c 7 t) (iblk m c 10 t)) (k0_pay3 (iblk m c 5 t) (iblk m c 2 t)) (iblk m c 8 t) (k0_pay4 (iblk m c 11 t)) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 12).blk t).view.emb y) := by
  have hr := row12 t y
  have hc := col12 t y
  rw [eq_ix2 (((cfg0.win 12).blk t).view.emb y)]
  generalize ((cfg0.win 12).blk t).view.emb y = e at hr hc ⊢
  idx_vars y
  refine Eq.trans (pay_at _ _ _ _ _ _ _ _ _ _ _ _ _ _) (Eq.trans ?_ (ref_at _ _ _ _ _ _ _ _ _ _).symm)
  replace hr : (e 0 : ℕ) = t.val % 16 * 512 + y0.val := hr
  replace hc : (e 1 : ℕ) = t.val / 16 * 1024 + y1.val := hc
  reads_congr
  · exact rd6 m c t _ _ _ _ hr (by show 8192 + (e 1 : ℕ) = _; omega)
  · exact rd9 m c t _ _ (by show (e 1 : ℕ) = _; omega)
  · exact rd0 m c t _ _ _ _ hr rfl
  · exact rd3 m c t _ _ _ _ rfl hc
  · exact rd7 m c t _ _ _ _ hr (by show 10240 + (e 1 : ℕ) = _; omega)
  · exact rd10 m c t _ _ (by show 2048 + (e 1 : ℕ) = _; omega)
  · exact rd1 m c t _ _ _ _ hr rfl
  · exact rd4 m c t _ _ _ _ rfl hc
  · exact rd8 m c t _ _ _ _ hr (by show 12288 + (e 1 : ℕ) = _; omega)
  · exact rd11 m c t _ _ (by show 4096 + (e 1 : ℕ) = _; omega)
  · exact rd2 m c t _ _ _ _ hr rfl
  · exact rd5 m c t _ _ _ _ rfl hc

/-- The result array after the run is the reference's result of the same arguments. -/
theorem final (c : Dev nD) : (dats m 0 c).arrAt 12 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 12 _ (by decide +kernel) fun t hf y => ?_
  blk_simp
  rw [after0_12]
  frame_out
  exact point m c t y

end Cert.MergeValue

end
-- ==== Proof.OutValue.lean ====
module

public import proofs.«01_k».proof.Proof.Gen.KernelOutIdeal.Value
public import proofs.«01_k».proof.Proof.Gen.ReferenceOutIdeal.Run
public import Idealize.ShloMosaic.Lib.Pipeline.ValueKit

/-! The output projection with its residual: the value of the idealized kernel's result array. -/

@[expose] public section

set_option maxRecDepth 16384

noncomputable section

open Idealize.ShloMosaic Idealize.ShloMosaic.TcCoe Idealize.SL.Sem
open Idealize.ShloMosaic.Pipeline (Dat)

namespace Cert.OutValue

open Cert.KernelOutIdeal Cert.KernelOutIdeal.Gen

variable (m : (ℓ : Loc nD τ sig) → Buf (Elt Ideal) ℓ)

/-- The reference's result as one term of its three arguments: the residual plus the whole product. -/
abbrev REF (a : FVec Ideal S8192x2048 .bf16) (w : FVec Ideal S2048x2048 .f32) (x : FVec Ideal S8192x2048 .f32) :
    FVec Ideal S8192x2048 .f32 :=
  addf x (Host.dotGeneral Cert.ReferenceOutIdeal.dot_S8192x2048_S2048x2048_S8192x2048_1_0_0_1_n_n none
    (extf .f32 a Cert.ReferenceOutIdeal.Gen.bitsLt_bf16_f32) w)

/-- The block index of each window at every grid point. -/
theorem idx : ∀ t : Fin cfg0.N, win0_0.index t = ![t.val, 0] ∧ win0_1.index t = ![0, 0] ∧
    win0_2.index t = ![t.val, 0] ∧ win0_3.index t = ![t.val, 0] :=
  (by decide +kernel : ∀ t : Fin grid0.N, _)

/-- What the body stores at an element of its block is the reference's result at the element's place in the array. -/
theorem point (c : Dev nD) (t : Fin cfg0.N) (y) : k0_pay1 (iblk m c 1 t) (iblk m c 0 t) (iblk m c 2 t) y
    = REF (m ((c : Thread nD τ).loc main_arg0)) (m ((c : Thread nD τ).loc main_arg1))
        (m ((c : Thread nD τ).loc main_arg2)) (((cfg0.win 3).blk t).view.emb y) := by
  pointwise [k0_pay1, REF]
  blk_point [iblk, V, idx t]

/-- The result array after the run is the reference's result of the same arguments. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  try rw [outsAt0]
  frame_out
  exact point m c t y

end Cert.OutValue

end
-- ==== Proof.Projections.lean ====
module

public import proofs.«01_k».proof.Defs
public import proofs.«01_k».proof.Proof.InValue
public import proofs.«01_k».proof.Proof.DownValue
public import proofs.«01_k».proof.Proof.MergeValue
public import proofs.«01_k».proof.Proof.OutValue
public import proofs.«01_k».proof.Proof.Gen.KernelMergeIdeal.Value
public import Idealize.ShloMosaic.Lib.Quiescent

/-! The value claims of the four matrix products: each kernel's result array and its reference's are one array. -/

@[expose] public section

set_option maxRecDepth 16384

noncomputable section

namespace Cert.Proof.Projections

open Idealize.ShloMosaic Idealize.ShloMosaic.TcCoe Idealize.SL.Sem

/-- The normalised input projection computes its reference's array. -/
theorem algebraic_in : Cert.algebraic_KernelInIdeal_ReferenceInIdeal := by
  intro m ρ m' ρ' _ hagree
  refine ⟨_, Cert.KernelInIdeal.Value.run_blocks (F := Ideal) m ρ, ?_⟩
  refine (θ_run Cert.ReferenceInIdeal.defs _ _).mono (fun _ h c => ⟨(h c).1.trans ?_, (h c).2⟩)
    (Cert.ReferenceInIdeal.Value.run (F := Ideal) m' ρ')
  rw [(hagree c).1, (hagree c).2.1, (hagree c).2.2]
  exact (Cert.InValue.final m c).symm

/-- The feed-forward block's second product computes its reference's array. -/
theorem algebraic_down : Cert.algebraic_KernelDownIdeal_ReferenceDownIdeal := by
  intro m ρ m' ρ' _ hagree
  refine ⟨_, Cert.KernelDownIdeal.Value.run_blocks (F := Ideal) m ρ, ?_⟩
  refine (θ_run Cert.ReferenceDownIdeal.defs _ _).mono (fun _ h c => ⟨(h c).1.trans ?_, (h c).2⟩)
    (Cert.ReferenceDownIdeal.Value.run (F := Ideal) m' ρ')
  rw [(hagree c).1, (hagree c).2.1, (hagree c).2.2]
  exact (Cert.DownValue.final m c).symm

/-- The gated sum of the branches' output projections computes its reference's array. -/
theorem algebraic_merge : Cert.algebraic_KernelMergeIdeal_ReferenceMergeIdeal := by
  intro m ρ m' ρ' _ hagree
  refine ⟨_, Cert.KernelMergeIdeal.Value.run_blocks (F := Ideal) m ρ, ?_⟩
  refine (θ_run Cert.ReferenceMergeIdeal.defs _ _).mono (fun _ h c => ⟨(h c).1.trans ?_, (h c).2⟩)
    (Cert.ReferenceMergeIdeal.Value.run (F := Ideal) m' ρ')
  obtain ⟨h0, h1, h2, h3, h4, h5, h6, h7⟩ := hagree c
  rw [h0, h1, h2, h3, h4, h5, h6, h7]
  exact (Cert.MergeValue.final m c).symm

/-- The output projection with its residual computes its reference's array. -/
theorem algebraic_out : Cert.algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ⟨(h c).1.trans ?_, (h c).2⟩)
    (Cert.ReferenceOutIdeal.Value.run (F := Ideal) m' ρ')
  rw [(hagree c).1, (hagree c).2.1, (hagree c).2.2]
  exact (Cert.OutValue.final m c).symm

end Cert.Proof.Projections

end
-- ==== Proof.RetentionTile.lean ====
module

public import proofs.«01_k».proof.Proof.Gen.KernelIdeal.Value
public import Idealize.ShloMosaic.Lib.Pipeline.ValueKit
public import Idealize.ShloMosaic.Lib.Pipeline.ReadBack

/-! The retention kernel's arithmetic of one chunk of 128 rows, one head or head pair at a time, as functions of
    the chunk's rows and of the state before it. -/

@[expose] public section

set_option maxRecDepth 16384

noncomputable section

open Idealize.ShloMosaic Idealize.ShloMosaic.TcCoe Idealize.SL.Sem

namespace Cert.Proof.RetentionTile

open Cert.KernelIdeal Cert.KernelIdeal.Gen

/-- The kernel's decay exponent of a head. -/
def lgc (h : Fin 8) : Ideal .f32 :=
  match h with
  | 0 => Named.named κ "lg0" 0xBD020AEC#32
  | 1 => Named.named κ "lg1" 0xBC8102B3#32
  | 2 => Named.named κ "lg2" 0xBC0080AC#32
  | 3 => Named.named κ "lg3" 0xBB80402B#32
  | 4 => Named.named κ "lg4" 0xBB00200B#32
  | 5 => Named.named κ "lg5" 0xBA801003#32
  | 6 => Named.named κ "lg6" 0xBA000801#32
  | 7 => Named.named κ "lg7" 0xB9800400#32

/-- The kernel's decay of a whole chunk of a head. -/
def gcc (h : Fin 8) : Ideal .f32 :=
  match h with
  | 0 => Named.named κ "gc0" 0x3C8CC36A#32
  | 1 => Named.named κ "gc1" 0x3E08698E#32
  | 2 => Named.named κ "gc2" 0x3EBB9DB9#32
  | 3 => Named.named κ "gc3" 0x3F1B1EB1#32
  | 4 => Named.named κ "gc4" 0x3F475303#32
  | 5 => Named.named κ "gc5" 0x3F61E7C9#32
  | 6 => Named.named κ "gc6" 0x3F707C6F#32
  | 7 => Named.named κ "gc7" 0x3F781F6D#32

/-- The even head of a pair. -/
abbrev ev (p : Fin 4) : Fin 8 := ⟨2 * p.val, by omega⟩
/-- The odd head of a pair. -/
abbrev od (p : Fin 4) : Fin 8 := ⟨2 * p.val + 1, by omega⟩

/-- A pair's lanes lie in a row of 512. -/
theorem cutQ : ∀ p : Fin 4, S128x512.Slices ![0, 128 * p.val] S128x128 := by decide
/-- A head's lanes lie in a row of 1024. -/
theorem cutV : ∀ h : Fin 8, S128x1024.Slices ![0, 128 * h.val] S128x128 := by decide

/-- The lanes of pair `p` of a row of 512. -/
def pair (x : FVec Ideal S128x512 .f32) (p : Fin 4) : FVec Ideal S128x128 .f32 :=
  extractStridedSlice S128x128 ![0, 128 * p.val] x (cutQ p)

/-- The lanes of head `h` of a row of 1024. -/
def head (x : FVec Ideal S128x1024 .f32) (h : Fin 8) : FVec Ideal S128x128 .f32 :=
  extractStridedSlice S128x128 ![0, 128 * h.val] x (cutV h)

/-- The decay of each row's position within the chunk, to the chunk's end. -/
def decEnd (l : Ideal .f32) : FVec Ideal S128x128 .f32 :=
  broadcastTo S128x128 (shapeCast S128x1 (exp (mulf (subf (broadcast S128x1 (Scalar.ofBits .f32 0x42FE0000#32 : Ideal .f32)) (k0_pay14 (F := Ideal)))
    (broadcast S128x1 l))) shapeCasts_S128x1_S128x1) broadcasts_S128x1_S128x128

/-- A pair's keys with their decay to the chunk's end. -/
def kdec (l0 l1 : Ideal .f32) (kp : FVec Ideal S128x128 .f32) : FVec Ideal S128x128 .bf16 :=
  truncf .bf16 (mulf kp (select k0_pay15 (decEnd l0) (decEnd l1))) bitsLt_bf16_f32

/-- A pair's queries, the other head's lanes zeroed: `b` says that the odd head stays. -/
def qm (b : Bool) (qp : FVec Ideal S128x128 .f32) : FVec Ideal S128x128 .bf16 :=
  match b with
  | false => truncf .bf16 (select k0_pay15 qp (broadcast S128x128 (Scalar.ofBits .f32 0x00000000#32 : Ideal .f32))) bitsLt_bf16_f32
  | true => truncf .bf16 (select (xori k0_pay15 (constantI S128x128 1 1#1)) qp (broadcast S128x128 (Scalar.ofBits .f32 0x00000000#32 : Ideal .f32))) bitsLt_bf16_f32

/-- The decayed scores of a head within the chunk. -/
def scores (l : Ideal .f32) (q : FVec Ideal S128x128 .bf16) (kp : FVec Ideal S128x128 .f32) : FVec Ideal S128x128 .f32 :=
  mulf (matmul dot_S128x128_S128x128_S128x128_1_1_0_0_n_n none q (truncf .bf16 kp bitsLt_bf16_f32) (constant S128x128 .f32 0x00000000#32))
    (select (k0_pay13 k0_pay10 (k0_pay12 (F := Ideal))) (exp (mulf (maximumf (k0_pay11 (F := Ideal)) (broadcast S128x128 (Scalar.ofBits .f32 0x00000000#32 : Ideal .f32)))
      (broadcast S128x128 l))) (broadcast S128x128 (Scalar.ofBits .f32 0x00000000#32 : Ideal .f32)))

/-- A head's output within the chunk. -/
def inner (l : Ideal .f32) (q : FVec Ideal S128x128 .bf16) (kp vh : FVec Ideal S128x128 .f32) : FVec Ideal S128x128 .f32 :=
  matmul dot_S128x128_S128x128_S128x128_1_0_0_1_n_n none (truncf .bf16 (scores l q kp) bitsLt_bf16_f32) (truncf .bf16 vh bitsLt_bf16_f32)
    (constant S128x128 .f32 0x00000000#32)

/-- The decay from the chunk's start to each row. -/
def decStart (l : Ideal .f32) : FVec Ideal S128x1 .f32 :=
  exp (mulf (addf (k0_pay14 (F := Ideal)) (broadcast S128x1 (Scalar.ofBits .f32 0x3F800000#32 : Ideal .f32))) (broadcast S128x1 l))

/-- A head's output: within the chunk, and from the state before it. -/
def out (l : Ideal .f32) (q : FVec Ideal S128x128 .bf16) (kp vh : FVec Ideal S128x128 .f32) (S : FVec Ideal S1x128x128 .f32) :
    FVec Ideal S128x128 .f32 :=
  addf (inner l q kp vh)
    (mulf (matmul dot_S128x128_S128x128_S128x128_1_0_0_1_n_n none q (truncf .bf16 (shapeCast S128x128 S shapeCasts_S1x128x128_S128x128) bitsLt_bf16_f32)
      (constant S128x128 .f32 0x00000000#32)) (broadcastTo S128x128 (decStart l) broadcasts_S128x1_S128x128))

/-- The root mean square of each row, scaled and gated. -/
def gated (o g : FVec Ideal S128x128 .f32) (ng : FVec Ideal S1x128 .f32) : FVec Ideal S128x128 .bf16 :=
  truncf .bf16 (mulf (mulf (mulf o (broadcastTo S128x128 (rsqrt (addf (divf (shapeCast S128x1
      (multiReduction .add [1] S128 (mulf o o) 0x00000000#32 reduces_S128x128_S128 (.inl rfl) rfl) shapeCasts_S128_S128x1)
      (broadcast S128x1 (Scalar.ofBits .f32 0x43000000#32 : Ideal .f32))) (broadcast S128x1 (Scalar.ofBits .f32 0x358637BD#32 : Ideal .f32)))) broadcasts_S128x1_S128x128))
    (broadcastTo S128x128 (shapeCast S1x128 ng shapeCasts_S1x128_S1x128) broadcasts_S1x128_S128x128)) (mulf g (logistic g))) bitsLt_bf16_f32

/-- The rotated queries of a chunk, of the rows, the cosines and the sines. -/
def rotQ (c s x : FVec Ideal S128x512 .f32) : FVec Ideal S128x512 .f32 := k0_pay8 c s x
/-- The rotated and scaled keys of a chunk. -/
def rotK (c s x : FVec Ideal S128x512 .f32) : FVec Ideal S128x512 .f32 := k0_pay9 (k0_pay6 c) (k0_pay7 s) x

/-- What the kernel stores for the even head of pair `p`. -/
def tileE (c s q k : FVec Ideal S128x512 .f32) (v : FVec Ideal S128x1024 .f32) (g : FVec Ideal S128x128 .f32) (ng : FVec Ideal S1x128 .f32)
    (S : FVec Ideal S1x128x128 .f32) (p : Fin 4) : FVec Ideal S128x128 .bf16 :=
  gated (out (lgc (ev p)) (qm false (pair (rotQ c s q) p)) (pair (rotK c s k) p) (head v (ev p)) S) g ng
/-- What the kernel stores for the odd head of pair `p`. -/
def tileO (c s q k : FVec Ideal S128x512 .f32) (v : FVec Ideal S128x1024 .f32) (g : FVec Ideal S128x128 .f32) (ng : FVec Ideal S1x128 .f32)
    (S : FVec Ideal S1x128x128 .f32) (p : Fin 4) : FVec Ideal S128x128 .bf16 :=
  gated (out (lgc (od p)) (qm true (pair (rotQ c s q) p)) (pair (rotK c s k) p) (head v (od p)) S) g ng

/-- The rows of a pair's state that belong to its even head. -/
abbrev top : IVec S128x128 1 := cmpi .slt (iota .tc S128x128 32 [0] iota_S128x128_d0_w32) (broadcast S128x128 64#32)

/-- A pair's state after a chunk. -/
def upd (c s k : FVec Ideal S128x512 .f32) (v : FVec Ideal S128x1024 .f32) (S : FVec Ideal S1x128x128 .f32) (p : Fin 4) : FVec Ideal S1x128x128 .f32 :=
  shapeCast S1x128x128 (addf (mulf (shapeCast S128x128 S shapeCasts_S1x128x128_S128x128)
      (select top (broadcast S128x128 (gcc (ev p))) (broadcast S128x128 (gcc (od p)))))
    (select top
      (matmul dot_S128x128_S128x128_S128x128_0_0_1_1_n_n none (kdec (lgc (ev p)) (lgc (od p)) (pair (rotK c s k) p)) (truncf .bf16 (head v (ev p)) bitsLt_bf16_f32) (constant S128x128 .f32 0x00000000#32))
      (matmul dot_S128x128_S128x128_S128x128_0_0_1_1_n_n none (kdec (lgc (ev p)) (lgc (od p)) (pair (rotK c s k) p)) (truncf .bf16 (head v (od p)) bitsLt_bf16_f32) (constant S128x128 .f32 0x00000000#32))))
    shapeCasts_S128x128_S1x128x128

end Cert.Proof.RetentionTile

end
-- ==== Proof.RetentionRun.lean ====
module

public import proofs.«01_k».proof.Proof.RetentionTile

/-! What one grid point of the retention kernel leaves in the state's scratch buffer, in the state's output window and in
    the output's window, in the arithmetic of one chunk. -/

@[expose] public section

set_option maxRecDepth 16384

noncomputable section

open Idealize.ShloMosaic Idealize.ShloMosaic.TcCoe Idealize.SL.Sem
open Idealize.ShloMosaic.Pipeline (Dat)

namespace Cert.Proof.RetentionRun

open Cert.KernelIdeal Cert.KernelIdeal.Gen Cert.Proof.RetentionTile

variable (m : (ℓ : Loc nD τ sig) → Buf (Elt Ideal) ℓ)

/-- A chunk's rows lie in a block of 512 rows of 512. -/
theorem inbA : ∀ n : Fin 4, ∀ a, (![128 * n.val, 0] : Fin 2 → Nat) a + S128x512.size a ≤ S512x512.size a := by decide
/-- A chunk's rows lie in a block of 512 rows of 1024. -/
theorem inbB : ∀ n : Fin 4, ∀ a, (![128 * n.val, 0] : Fin 2 → Nat) a + S128x1024.size a ≤ S512x1024.size a := by decide
/-- A chunk's rows and a head's lanes lie in a block of 512 rows of 1024. -/
theorem inbG : ∀ n : Fin 4, ∀ h : Fin 8, ∀ a, (![128 * n.val, 128 * h.val] : Fin 2 → Nat) a + S128x128.size a ≤ S512x1024.size a := by decide
/-- A pair's state lies in the state. -/
theorem inbS : ∀ p : Fin 4, ∀ a, (![p.val, 0, 0] : Fin 3 → Nat) a + S1x128x128.size a ≤ S4x128x128.size a := by decide

/-- The rows of chunk `n` of a block of 512 rows of 512. -/
def rowsA (X : FVec Ideal S512x512 .f32) (n : Fin 4) : FVec Ideal S128x512 .f32 :=
  fun x => X ((Rect.unit (s := S512x512) ![128 * n.val, 0] S128x512.size (inbA n)).idx x)
/-- The rows of chunk `n` of a block of 512 rows of 1024. -/
def rowsB (X : FVec Ideal S512x1024 .f32) (n : Fin 4) : FVec Ideal S128x1024 .f32 :=
  fun x => X ((Rect.unit (s := S512x1024) ![128 * n.val, 0] S128x1024.size (inbB n)).idx x)
/-- The rows of chunk `n` of a block of 512 rows of 1024, the lanes of head `h`. -/
def rowsG (X : FVec Ideal S512x1024 .f32) (n : Fin 4) (h : Fin 8) : FVec Ideal S128x128 .f32 :=
  fun x => X ((Rect.unit (s := S512x1024) ![128 * n.val, 128 * h.val] S128x128.size (inbG n h)).idx x)
/-- Pair `p` of a state. -/
def pairS (X : FVec Ideal S4x128x128 .f32) (p : Fin 4) : FVec Ideal S1x128x128 .f32 :=
  fun x => X ((Rect.unit (s := S4x128x128) ![p.val, 0, 0] S1x128x128.size (inbS p)).idx x)

/-- A pair's state before chunk `n` of a point's four, of the point's blocks and the state before it. -/
def stN (xc xs xk : FVec Ideal S512x512 .f32) (xv : FVec Ideal S512x1024 .f32) (S : FVec Ideal S4x128x128 .f32) (p : Fin 4) : ℕ → FVec Ideal S1x128x128 .f32
  | 0 => pairS S p
  | n + 1 => if h : n < 4 then upd (rowsA xc ⟨n, h⟩) (rowsA xs ⟨n, h⟩) (rowsA xk ⟨n, h⟩) (rowsB xv ⟨n, h⟩) (stN xc xs xk xv S p n) p else 0

/-- One chunk more of a pair's state. -/
theorem stN_succ (xc xs xk : FVec Ideal S512x512 .f32) (xv : FVec Ideal S512x1024 .f32) (S : FVec Ideal S4x128x128 .f32) (p n : Fin 4) :
    stN xc xs xk xv S p (n.val + 1) = upd (rowsA xc n) (rowsA xs n) (rowsA xk n) (rowsB xv n) (stN xc xs xk xv S p n.val) p := by
  show (if h : n.val < 4 then _ else _) = _
  rw [dif_pos n.isLt]

set_option maxHeartbeats 2000000

/-- A head's output tile, of the chunk's rows and the state of its pair before the chunk. -/
def tile (c s q k : FVec Ideal S128x512 .f32) (v : FVec Ideal S128x1024 .f32) (g : FVec Ideal S128x128 .f32) (ng : FVec Ideal S1x128 .f32)
    (S : FVec Ideal S1x128x128 .f32) (h : Fin 8) : FVec Ideal S128x128 .bf16 :=
  if h.val % 2 = 0 then tileE c s q k v g ng S ⟨h.val / 2, by omega⟩ else tileO c s q k v g ng S ⟨h.val / 2, by omega⟩

/-- The output tile of chunk `n` of a point's four and of head `h`. -/
def yT (xq xk : FVec Ideal S512x512 .f32) (xv xg : FVec Ideal S512x1024 .f32) (xc xs : FVec Ideal S512x512 .f32) (ng : FVec Ideal S1x128 .f32)
    (S : FVec Ideal S4x128x128 .f32) (n : Fin 4) (h : Fin 8) : FVec Ideal S128x128 .bf16 :=
  tile (rowsA xc n) (rowsA xs n) (rowsA xq n) (rowsA xk n) (rowsB xv n) (rowsG xg n h) ng (stN xc xs xk xv S ⟨h.val / 2, by omega⟩ n.val) h

/-- A pair's piece, read at an index of the whole state. -/
theorem piece (p : Fin 4 → FVec Ideal S1x128x128 .f32) (n : Fin 4) (w : FVec Ideal S1x128x128 .f32) (y : S4x128x128.Idx) (x : S1x128x128.Idx)
    (e0 : (y 0 : ℕ) = n.val + (x 0 : ℕ)) (e1 : (y 1 : ℕ) = (x 1 : ℕ)) (e2 : (y 2 : ℕ) = (x 2 : ℕ)) (e : w = p n) : w x = p (y 0) (ix3 0 (y 1) (y 2)) := by
  have hx : (x 0 : ℕ) < 1 := (x 0).isLt
  have h0 : y 0 = n := Fin.ext (by omega)
  rw [h0, e]
  congr 1
  funext a
  match a with
  | 0 => exact Fin.ext (show (x 0 : ℕ) = 0 by omega)
  | 1 => exact Fin.ext e1.symm
  | 2 => exact Fin.ext e2.symm

/-- Stores of the four pairs, over anything earlier, leave each pair's state. -/
theorem canon_four (p : Fin 4 → FVec Ideal S1x128x128 .f32) (w3 w2 w1 w0 : FVec Ideal S1x128x128 .f32) (L : List (View.Piece (Elt Ideal) S4x128x128 .f32))
    (e3 : w3 = p 3) (e2 : w2 = p 2) (e1 : w1 = p 1) (e0 : w0 = p 0) (y : S4x128x128.Idx) :
    View.canon (Val := Elt Ideal) (s := S4x128x128) (e := .f32) (⟨Rect.unit ![3, 0, 0] ![1, 128, 128] inb_S4x128x128_S1x128x128_3_0_0, w3⟩ ::
      ⟨Rect.unit ![2, 0, 0] ![1, 128, 128] inb_S4x128x128_S1x128x128_2_0_0, w2⟩ ::
      ⟨Rect.unit ![1, 0, 0] ![1, 128, 128] inb_S4x128x128_S1x128x128_1_0_0, w1⟩ ::
      ⟨Rect.unit ![0, 0, 0] ![1, 128, 128] inb_S4x128x128_S1x128x128_0_0_0, w0⟩ :: L) y = p (y 0) (ix3 0 (y 1) (y 2)) := by
  have key : ∀ (n : Fin 4) (inb) (w : FVec Ideal S1x128x128 .f32) (L : List (View.Piece (Elt Ideal) S4x128x128 .f32)) (_ : w = p n),
      ((y 0 : Fin 4) = n ∨ View.canon (Val := Elt Ideal) L y = p (y 0) (ix3 0 (y 1) (y 2))) →
      View.canon (Val := Elt Ideal) (s := S4x128x128) (e := .f32) (⟨Rect.unit ![n.val, 0, 0] ![1, 128, 128] inb, w⟩ :: L) y = p (y 0) (ix3 0 (y 1) (y 2)) := by
    intro n inb w L e hy
    by_cases hm : y ∈ (Rect.unit (s := S4x128x128) ![n.val, 0, 0] ![1, 128, 128] inb).set
    · obtain ⟨x, hx⟩ : ∃ x, (Rect.unit (s := S4x128x128) ![n.val, 0, 0] ![1, 128, 128] inb).emb x = y := (Rect.unit (s := S4x128x128) ![n.val, 0, 0] ![1, 128, 128] inb).exists_idx_of_mem hm
      have hx' := congrFun hx
      rw [← hx, View.canon_cons_emb, hx]
      refine piece p n w y x ?_ ?_ ?_ e
      · rw [← hx' 0]; exact (Rect.idx_unit_val _ _ _ x 0)
      · rw [← hx' 1]; exact (Rect.idx_unit_val _ _ _ x 1).trans (Nat.zero_add _)
      · rw [← hx' 2]; exact (Rect.idx_unit_val _ _ _ x 2).trans (Nat.zero_add _)
    · rw [View.canon_cons_of_not_mem _ _ hm]
      rcases hy with hy | hy
      · refine absurd ?_ hm
        have hx : (Rect.unit (s := S4x128x128) ![n.val, 0, 0] ![1, 128, 128] inb).idx (ix3 0 (y 1) (y 2) : S1x128x128.Idx) = y := by
          funext a
          refine Fin.ext ((Rect.idx_unit_val _ _ _ _ a).trans ?_)
          match a with
          | 0 => exact (congrArg Fin.val hy).symm
          | 1 => exact Nat.zero_add _
          | 2 => exact Nat.zero_add _
        rw [← hx]
        exact (Rect.unit (s := S4x128x128) ![n.val, 0, 0] ![1, 128, 128] inb).idx_mem _
      · exact hy
  refine key 3 _ w3 _ e3 ?_
  by_cases h3 : (y 0 : ℕ) = 3
  · exact Or.inl (Fin.ext h3)
  refine Or.inr (key 2 _ w2 _ e2 ?_)
  by_cases h2 : (y 0 : ℕ) = 2
  · exact Or.inl (Fin.ext h2)
  refine Or.inr (key 1 _ w1 _ e1 ?_)
  by_cases h1 : (y 0 : ℕ) = 1
  · exact Or.inl (Fin.ext h1)
  refine Or.inr (key 0 _ w0 _ e0 (Or.inl ?_))
  have hy : (y 0 : ℕ) < 4 := (y 0).isLt
  exact Fin.ext (show (y 0 : ℕ) = 0 by omega)

/-- The state's copy into its output window. -/
theorem out3 (X : FVec Ideal S4x128x128 .f32) (p : Fin 4 → FVec Ideal S1x128x128 .f32) (h : ∀ z, X z = p (z 0) (ix3 0 (z 1) (z 2)))
    (y : S1x4x128x128.Idx) : k0_pay3 X y = p (y 1) (ix3 0 (y 2) (y 3)) := by
  have e : k0_pay3 X y = X (ix3 (y 1) (y 2) (y 3)) := by pointwise [k0_pay3]; try blk_ext
  rw [e, h]
  rfl

/-- A head's tile, read at an index of the whole block. -/
theorem pieceY (p : Fin 4 → Fin 8 → FVec Ideal S128x128 .bf16) (n : Fin 4) (h : Fin 8) (w : FVec Ideal S128x128 .bf16) (y : S512x1024.Idx) (x : S128x128.Idx)
    (e0 : (y 0 : ℕ) = 128 * n.val + (x 0 : ℕ)) (e1 : (y 1 : ℕ) = 128 * h.val + (x 1 : ℕ)) (e : w = p n h) :
    w x = p ⟨(y 0 : ℕ) / 128, Nat.div_lt_of_lt_mul (y 0).isLt⟩ ⟨(y 1 : ℕ) / 128, Nat.div_lt_of_lt_mul (y 1).isLt⟩
      (ix2 ⟨(y 0 : ℕ) % 128, Nat.mod_lt _ (by omega)⟩ ⟨(y 1 : ℕ) % 128, Nat.mod_lt _ (by omega)⟩) := by
  have hx : (x 0 : ℕ) < 128 := (x 0).isLt
  have hx1 : (x 1 : ℕ) < 128 := (x 1).isLt
  have h0 : (⟨(y 0 : ℕ) / 128, Nat.div_lt_of_lt_mul (y 0).isLt⟩ : Fin 4) = n := Fin.ext (show (y 0 : ℕ) / 128 = n.val by omega)
  have h1 : (⟨(y 1 : ℕ) / 128, Nat.div_lt_of_lt_mul (y 1).isLt⟩ : Fin 8) = h := Fin.ext (show (y 1 : ℕ) / 128 = h.val by omega)
  rw [h0, h1, e]
  congr 1
  funext a
  match a with
  | 0 => exact Fin.ext (show (x 0 : ℕ) = (y 0 : ℕ) % 128 by omega)
  | 1 => exact Fin.ext (show (x 1 : ℕ) = (y 1 : ℕ) % 128 by omega)

/-- The state that the first point of a batch leaves. -/
theorem sA (c : Dev nD) (t : Fin cfg0.N) (q0 : t.val % 8 = 0) (q1 : ¬ t.val % 8 = 7) (y : S4x128x128.Idx) :
    (outsAt0 m c t.val t.isLt).2.2 y = stN (iblk m c 4 t) (iblk m c 5 t) (iblk m c 1 t) (iblk m c 2 t) (k0_pay4 (F := Ideal)) (y 0) 4 (ix3 0 (y 1) (y 2)) := by
  rw [outsAt0_A m c t q0 q1]
  frame_open
  simp (disch := decide) only [↓ View.readCov_skip, ↓ View.readCov_cons_toLoadRect, ↓ View.readCov_fill]
  frame_out
  exact canon_four (fun p => stN (iblk m c 4 t) (iblk m c 5 t) (iblk m c 1 t) (iblk m c 2 t) (k0_pay4 (F := Ideal)) p 4) _ _ _ _ _ rfl rfl rfl rfl y

/-- The output block of the first point of a batch. -/
theorem yA (c : Dev nD) (t : Fin cfg0.N) (q0 : t.val % 8 = 0) (q1 : ¬ t.val % 8 = 7) (y : S512x1024.Idx) :
    (outsAt0 m c t.val t.isLt).1 y = yT (iblk m c 0 t) (iblk m c 1 t) (iblk m c 2 t) (iblk m c 3 t) (iblk m c 4 t) (iblk m c 5 t) (iblk m c 6 t) (k0_pay4 (F := Ideal))
      ⟨(y 0 : ℕ) / 128, Nat.div_lt_of_lt_mul (y 0).isLt⟩ ⟨(y 1 : ℕ) / 128, Nat.div_lt_of_lt_mul (y 1).isLt⟩
      (ix2 ⟨(y 0 : ℕ) % 128, Nat.mod_lt _ (by omega)⟩ ⟨(y 1 : ℕ) % 128, Nat.mod_lt _ (by omega)⟩) := by
  rw [outsAt0_A m c t q0 q1]
  frame_open
  simp (disch := decide) only [↓ View.readCov_skip, ↓ View.readCov_cons_toLoadRect, ↓ View.readCov_fill]
  frame_out
  canon_tiles x h
  case piece0 => exact pieceY (yT (iblk m c 0 t) (iblk m c 1 t) (iblk m c 2 t) (iblk m c 3 t) (iblk m c 4 t) (iblk m c 5 t) (iblk m c 6 t) (k0_pay4 (F := Ideal))) 3 7 _ y x (by omega) (by omega) rfl
  case piece1 => exact pieceY (yT (iblk m c 0 t) (iblk m c 1 t) (iblk m c 2 t) (iblk m c 3 t) (iblk m c 4 t) (iblk m c 5 t) (iblk m c 6 t) (k0_pay4 (F := Ideal))) 3 6 _ y x (by omega) (by omega) rfl
  case piece2 => exact pieceY (yT (iblk m c 0 t) (iblk m c 1 t) (iblk m c 2 t) (iblk m c 3 t) (iblk m c 4 t) (iblk m c 5 t) (iblk m c 6 t) (k0_pay4 (F := Ideal))) 3 5 _ y x (by omega) (by omega) rfl
  case piece3 => exact pieceY (yT (iblk m c 0 t) (iblk m c 1 t) (iblk m c 2 t) (iblk m c 3 t) (iblk m c 4 t) (iblk m c 5 t) (iblk m c 6 t) (k0_pay4 (F := Ideal))) 3 4 _ y x (by omega) (by omega) rfl
  case piece4 => exact pieceY (yT (iblk m c 0 t) (iblk m c 1 t) (iblk m c 2 t) (iblk m c 3 t) (iblk m c 4 t) (iblk m c 5 t) (iblk m c 6 t) (k0_pay4 (F := Ideal))) 3 3 _ y x (by omega) (by omega) rfl
  case piece5 => exact pieceY (yT (iblk m c 0 t) (iblk m c 1 t) (iblk m c 2 t) (iblk m c 3 t) (iblk m c 4 t) (iblk m c 5 t) (iblk m c 6 t) (k0_pay4 (F := Ideal))) 3 2 _ y x (by omega) (by omega) rfl
  case piece6 => exact pieceY (yT (iblk m c 0 t) (iblk m c 1 t) (iblk m c 2 t) (iblk m c 3 t) (iblk m c 4 t) (iblk m c 5 t) (iblk m c 6 t) (k0_pay4 (F := Ideal))) 3 1 _ y x (by omega) (by omega) rfl
  case piece7 => exact pieceY (yT (iblk m c 0 t) (iblk m c 1 t) (iblk m c 2 t) (iblk m c 3 t) (iblk m c 4 t) (iblk m c 5 t) (iblk m c 6 t) (k0_pay4 (F := Ideal))) 3 0 _ y x (by omega) (by omega) rfl
  case piece8 => exact pieceY (yT (iblk m c 0 t) (iblk m c 1 t) (iblk m c 2 t) (iblk m c 3 t) (iblk m c 4 t) (iblk m c 5 t) (iblk m c 6 t) (k0_pay4 (F := Ideal))) 2 7 _ y x (by omega) (by omega) rfl
  case piece9 => exact pieceY (yT (iblk m c 0 t) (iblk m c 1 t) (iblk m c 2 t) (iblk m c 3 t) (iblk m c 4 t) (iblk m c 5 t) (iblk m c 6 t) (k0_pay4 (F := Ideal))) 2 6 _ y x (by omega) (by omega) rfl
  case piece10 => exact pieceY (yT (iblk m c 0 t) (iblk m c 1 t) (iblk m c 2 t) (iblk m c 3 t) (iblk m c 4 t) (iblk m c 5 t) (iblk m c 6 t) (k0_pay4 (F := Ideal))) 2 5 _ y x (by omega) (by omega) rfl
  case piece11 => exact pieceY (yT (iblk m c 0 t) (iblk m c 1 t) (iblk m c 2 t) (iblk m c 3 t) (iblk m c 4 t) (iblk m c 5 t) (iblk m c 6 t) (k0_pay4 (F := Ideal))) 2 4 _ y x (by omega) (by omega) rfl
  case piece12 => exact pieceY (yT (iblk m c 0 t) (iblk m c 1 t) (iblk m c 2 t) (iblk m c 3 t) (iblk m c 4 t) (iblk m c 5 t) (iblk m c 6 t) (k0_pay4 (F := Ideal))) 2 3 _ y x (by omega) (by omega) rfl
  case piece13 => exact pieceY (yT (iblk m c 0 t) (iblk m c 1 t) (iblk m c 2 t) (iblk m c 3 t) (iblk m c 4 t) (iblk m c 5 t) (iblk m c 6 t) (k0_pay4 (F := Ideal))) 2 2 _ y x (by omega) (by omega) rfl
  case piece14 => exact pieceY (yT (iblk m c 0 t) (iblk m c 1 t) (iblk m c 2 t) (iblk m c 3 t) (iblk m c 4 t) (iblk m c 5 t) (iblk m c 6 t) (k0_pay4 (F := Ideal))) 2 1 _ y x (by omega) (by omega) rfl
  case piece15 => exact pieceY (yT (iblk m c 0 t) (iblk m c 1 t) (iblk m c 2 t) (iblk m c 3 t) (iblk m c 4 t) (iblk m c 5 t) (iblk m c 6 t) (k0_pay4 (F := Ideal))) 2 0 _ y x (by omega) (by omega) rfl
  case piece16 => exact pieceY (yT (iblk m c 0 t) (iblk m c 1 t) (iblk m c 2 t) (iblk m c 3 t) (iblk m c 4 t) (iblk m c 5 t) (iblk m c 6 t) (k0_pay4 (F := Ideal))) 1 7 _ y x (by omega) (by omega) rfl
  case piece17 => exact pieceY (yT (iblk m c 0 t) (iblk m c 1 t) (iblk m c 2 t) (iblk m c 3 t) (iblk m c 4 t) (iblk m c 5 t) (iblk m c 6 t) (k0_pay4 (F := Ideal))) 1 6 _ y x (by omega) (by omega) rfl
  case piece18 => exact pieceY (yT (iblk m c 0 t) (iblk m c 1 t) (iblk m c 2 t) (iblk m c 3 t) (iblk m c 4 t) (iblk m c 5 t) (iblk m c 6 t) (k0_pay4 (F := Ideal))) 1 5 _ y x (by omega) (by omega) rfl
  case piece19 => exact pieceY (yT (iblk m c 0 t) (iblk m c 1 t) (iblk m c 2 t) (iblk m c 3 t) (iblk m c 4 t) (iblk m c 5 t) (iblk m c 6 t) (k0_pay4 (F := Ideal))) 1 4 _ y x (by omega) (by omega) rfl
  case piece20 => exact pieceY (yT (iblk m c 0 t) (iblk m c 1 t) (iblk m c 2 t) (iblk m c 3 t) (iblk m c 4 t) (iblk m c 5 t) (iblk m c 6 t) (k0_pay4 (F := Ideal))) 1 3 _ y x (by omega) (by omega) rfl
  case piece21 => exact pieceY (yT (iblk m c 0 t) (iblk m c 1 t) (iblk m c 2 t) (iblk m c 3 t) (iblk m c 4 t) (iblk m c 5 t) (iblk m c 6 t) (k0_pay4 (F := Ideal))) 1 2 _ y x (by omega) (by omega) rfl
  case piece22 => exact pieceY (yT (iblk m c 0 t) (iblk m c 1 t) (iblk m c 2 t) (iblk m c 3 t) (iblk m c 4 t) (iblk m c 5 t) (iblk m c 6 t) (k0_pay4 (F := Ideal))) 1 1 _ y x (by omega) (by omega) rfl
  case piece23 => exact pieceY (yT (iblk m c 0 t) (iblk m c 1 t) (iblk m c 2 t) (iblk m c 3 t) (iblk m c 4 t) (iblk m c 5 t) (iblk m c 6 t) (k0_pay4 (F := Ideal))) 1 0 _ y x (by omega) (by omega) rfl
  case piece24 => exact pieceY (yT (iblk m c 0 t) (iblk m c 1 t) (iblk m c 2 t) (iblk m c 3 t) (iblk m c 4 t) (iblk m c 5 t) (iblk m c 6 t) (k0_pay4 (F := Ideal))) 0 7 _ y x (by omega) (by omega) rfl
  case piece25 => exact pieceY (yT (iblk m c 0 t) (iblk m c 1 t) (iblk m c 2 t) (iblk m c 3 t) (iblk m c 4 t) (iblk m c 5 t) (iblk m c 6 t) (k0_pay4 (F := Ideal))) 0 6 _ y x (by omega) (by omega) rfl
  case piece26 => exact pieceY (yT (iblk m c 0 t) (iblk m c 1 t) (iblk m c 2 t) (iblk m c 3 t) (iblk m c 4 t) (iblk m c 5 t) (iblk m c 6 t) (k0_pay4 (F := Ideal))) 0 5 _ y x (by omega) (by omega) rfl
  case piece27 => exact pieceY (yT (iblk m c 0 t) (iblk m c 1 t) (iblk m c 2 t) (iblk m c 3 t) (iblk m c 4 t) (iblk m c 5 t) (iblk m c 6 t) (k0_pay4 (F := Ideal))) 0 4 _ y x (by omega) (by omega) rfl
  case piece28 => exact pieceY (yT (iblk m c 0 t) (iblk m c 1 t) (iblk m c 2 t) (iblk m c 3 t) (iblk m c 4 t) (iblk m c 5 t) (iblk m c 6 t) (k0_pay4 (F := Ideal))) 0 3 _ y x (by omega) (by omega) rfl
  case piece29 => exact pieceY (yT (iblk m c 0 t) (iblk m c 1 t) (iblk m c 2 t) (iblk m c 3 t) (iblk m c 4 t) (iblk m c 5 t) (iblk m c 6 t) (k0_pay4 (F := Ideal))) 0 2 _ y x (by omega) (by omega) rfl
  case piece30 => exact pieceY (yT (iblk m c 0 t) (iblk m c 1 t) (iblk m c 2 t) (iblk m c 3 t) (iblk m c 4 t) (iblk m c 5 t) (iblk m c 6 t) (k0_pay4 (F := Ideal))) 0 1 _ y x (by omega) (by omega) rfl
  case piece31 => exact pieceY (yT (iblk m c 0 t) (iblk m c 1 t) (iblk m c 2 t) (iblk m c 3 t) (iblk m c 4 t) (iblk m c 5 t) (iblk m c 6 t) (k0_pay4 (F := Ideal))) 0 0 _ y x (by omega) (by omega) rfl

/-- The state that a point in a batch's middle leaves. -/
theorem sB (c : Dev nD) (t : Fin cfg0.N) (q0 : ¬ t.val % 8 = 0) (q1 : ¬ t.val % 8 = 7) (y : S4x128x128.Idx) :
    (outsAt0 m c t.val t.isLt).2.2 y = stN (iblk m c 4 t) (iblk m c 5 t) (iblk m c 1 t) (iblk m c 2 t) (outsAt0 m c (t.val - 1) (by omega)).2.2 (y 0) 4 (ix3 0 (y 1) (y 2)) := by
  rw [outsAt0_B m c t q0 q1]
  frame_open
  simp (disch := decide) only [↓ View.readCov_skip, ↓ View.readCov_cons_toLoadRect, ↓ View.readCov_fill]
  frame_out
  simp only [read_unread_whole]
  generalize (outsAt0 m c (t.val - 1) (by omega)).2.2 = S
  exact canon_four (fun p => stN (iblk m c 4 t) (iblk m c 5 t) (iblk m c 1 t) (iblk m c 2 t) S p 4) _ _ _ _ _ rfl rfl rfl rfl y

/-- The output block of a point in a batch's middle. -/
theorem yB (c : Dev nD) (t : Fin cfg0.N) (q0 : ¬ t.val % 8 = 0) (q1 : ¬ t.val % 8 = 7) (y : S512x1024.Idx) :
    (outsAt0 m c t.val t.isLt).1 y = yT (iblk m c 0 t) (iblk m c 1 t) (iblk m c 2 t) (iblk m c 3 t) (iblk m c 4 t) (iblk m c 5 t) (iblk m c 6 t) (outsAt0 m c (t.val - 1) (by omega)).2.2
      ⟨(y 0 : ℕ) / 128, Nat.div_lt_of_lt_mul (y 0).isLt⟩ ⟨(y 1 : ℕ) / 128, Nat.div_lt_of_lt_mul (y 1).isLt⟩
      (ix2 ⟨(y 0 : ℕ) % 128, Nat.mod_lt _ (by omega)⟩ ⟨(y 1 : ℕ) % 128, Nat.mod_lt _ (by omega)⟩) := by
  rw [outsAt0_B m c t q0 q1]
  frame_open
  simp (disch := decide) only [↓ View.readCov_skip, ↓ View.readCov_cons_toLoadRect, ↓ View.readCov_fill]
  frame_out
  simp only [read_unread_whole]
  generalize (outsAt0 m c (t.val - 1) (by omega)).2.2 = S
  canon_tiles x h
  case piece0 => exact pieceY (yT (iblk m c 0 t) (iblk m c 1 t) (iblk m c 2 t) (iblk m c 3 t) (iblk m c 4 t) (iblk m c 5 t) (iblk m c 6 t) S) 3 7 _ y x (by omega) (by omega) rfl
  case piece1 => exact pieceY (yT (iblk m c 0 t) (iblk m c 1 t) (iblk m c 2 t) (iblk m c 3 t) (iblk m c 4 t) (iblk m c 5 t) (iblk m c 6 t) S) 3 6 _ y x (by omega) (by omega) rfl
  case piece2 => exact pieceY (yT (iblk m c 0 t) (iblk m c 1 t) (iblk m c 2 t) (iblk m c 3 t) (iblk m c 4 t) (iblk m c 5 t) (iblk m c 6 t) S) 3 5 _ y x (by omega) (by omega) rfl
  case piece3 => exact pieceY (yT (iblk m c 0 t) (iblk m c 1 t) (iblk m c 2 t) (iblk m c 3 t) (iblk m c 4 t) (iblk m c 5 t) (iblk m c 6 t) S) 3 4 _ y x (by omega) (by omega) rfl
  case piece4 => exact pieceY (yT (iblk m c 0 t) (iblk m c 1 t) (iblk m c 2 t) (iblk m c 3 t) (iblk m c 4 t) (iblk m c 5 t) (iblk m c 6 t) S) 3 3 _ y x (by omega) (by omega) rfl
  case piece5 => exact pieceY (yT (iblk m c 0 t) (iblk m c 1 t) (iblk m c 2 t) (iblk m c 3 t) (iblk m c 4 t) (iblk m c 5 t) (iblk m c 6 t) S) 3 2 _ y x (by omega) (by omega) rfl
  case piece6 => exact pieceY (yT (iblk m c 0 t) (iblk m c 1 t) (iblk m c 2 t) (iblk m c 3 t) (iblk m c 4 t) (iblk m c 5 t) (iblk m c 6 t) S) 3 1 _ y x (by omega) (by omega) rfl
  case piece7 => exact pieceY (yT (iblk m c 0 t) (iblk m c 1 t) (iblk m c 2 t) (iblk m c 3 t) (iblk m c 4 t) (iblk m c 5 t) (iblk m c 6 t) S) 3 0 _ y x (by omega) (by omega) rfl
  case piece8 => exact pieceY (yT (iblk m c 0 t) (iblk m c 1 t) (iblk m c 2 t) (iblk m c 3 t) (iblk m c 4 t) (iblk m c 5 t) (iblk m c 6 t) S) 2 7 _ y x (by omega) (by omega) rfl
  case piece9 => exact pieceY (yT (iblk m c 0 t) (iblk m c 1 t) (iblk m c 2 t) (iblk m c 3 t) (iblk m c 4 t) (iblk m c 5 t) (iblk m c 6 t) S) 2 6 _ y x (by omega) (by omega) rfl
  case piece10 => exact pieceY (yT (iblk m c 0 t) (iblk m c 1 t) (iblk m c 2 t) (iblk m c 3 t) (iblk m c 4 t) (iblk m c 5 t) (iblk m c 6 t) S) 2 5 _ y x (by omega) (by omega) rfl
  case piece11 => exact pieceY (yT (iblk m c 0 t) (iblk m c 1 t) (iblk m c 2 t) (iblk m c 3 t) (iblk m c 4 t) (iblk m c 5 t) (iblk m c 6 t) S) 2 4 _ y x (by omega) (by omega) rfl
  case piece12 => exact pieceY (yT (iblk m c 0 t) (iblk m c 1 t) (iblk m c 2 t) (iblk m c 3 t) (iblk m c 4 t) (iblk m c 5 t) (iblk m c 6 t) S) 2 3 _ y x (by omega) (by omega) rfl
  case piece13 => exact pieceY (yT (iblk m c 0 t) (iblk m c 1 t) (iblk m c 2 t) (iblk m c 3 t) (iblk m c 4 t) (iblk m c 5 t) (iblk m c 6 t) S) 2 2 _ y x (by omega) (by omega) rfl
  case piece14 => exact pieceY (yT (iblk m c 0 t) (iblk m c 1 t) (iblk m c 2 t) (iblk m c 3 t) (iblk m c 4 t) (iblk m c 5 t) (iblk m c 6 t) S) 2 1 _ y x (by omega) (by omega) rfl
  case piece15 => exact pieceY (yT (iblk m c 0 t) (iblk m c 1 t) (iblk m c 2 t) (iblk m c 3 t) (iblk m c 4 t) (iblk m c 5 t) (iblk m c 6 t) S) 2 0 _ y x (by omega) (by omega) rfl
  case piece16 => exact pieceY (yT (iblk m c 0 t) (iblk m c 1 t) (iblk m c 2 t) (iblk m c 3 t) (iblk m c 4 t) (iblk m c 5 t) (iblk m c 6 t) S) 1 7 _ y x (by omega) (by omega) rfl
  case piece17 => exact pieceY (yT (iblk m c 0 t) (iblk m c 1 t) (iblk m c 2 t) (iblk m c 3 t) (iblk m c 4 t) (iblk m c 5 t) (iblk m c 6 t) S) 1 6 _ y x (by omega) (by omega) rfl
  case piece18 => exact pieceY (yT (iblk m c 0 t) (iblk m c 1 t) (iblk m c 2 t) (iblk m c 3 t) (iblk m c 4 t) (iblk m c 5 t) (iblk m c 6 t) S) 1 5 _ y x (by omega) (by omega) rfl
  case piece19 => exact pieceY (yT (iblk m c 0 t) (iblk m c 1 t) (iblk m c 2 t) (iblk m c 3 t) (iblk m c 4 t) (iblk m c 5 t) (iblk m c 6 t) S) 1 4 _ y x (by omega) (by omega) rfl
  case piece20 => exact pieceY (yT (iblk m c 0 t) (iblk m c 1 t) (iblk m c 2 t) (iblk m c 3 t) (iblk m c 4 t) (iblk m c 5 t) (iblk m c 6 t) S) 1 3 _ y x (by omega) (by omega) rfl
  case piece21 => exact pieceY (yT (iblk m c 0 t) (iblk m c 1 t) (iblk m c 2 t) (iblk m c 3 t) (iblk m c 4 t) (iblk m c 5 t) (iblk m c 6 t) S) 1 2 _ y x (by omega) (by omega) rfl
  case piece22 => exact pieceY (yT (iblk m c 0 t) (iblk m c 1 t) (iblk m c 2 t) (iblk m c 3 t) (iblk m c 4 t) (iblk m c 5 t) (iblk m c 6 t) S) 1 1 _ y x (by omega) (by omega) rfl
  case piece23 => exact pieceY (yT (iblk m c 0 t) (iblk m c 1 t) (iblk m c 2 t) (iblk m c 3 t) (iblk m c 4 t) (iblk m c 5 t) (iblk m c 6 t) S) 1 0 _ y x (by omega) (by omega) rfl
  case piece24 => exact pieceY (yT (iblk m c 0 t) (iblk m c 1 t) (iblk m c 2 t) (iblk m c 3 t) (iblk m c 4 t) (iblk m c 5 t) (iblk m c 6 t) S) 0 7 _ y x (by omega) (by omega) rfl
  case piece25 => exact pieceY (yT (iblk m c 0 t) (iblk m c 1 t) (iblk m c 2 t) (iblk m c 3 t) (iblk m c 4 t) (iblk m c 5 t) (iblk m c 6 t) S) 0 6 _ y x (by omega) (by omega) rfl
  case piece26 => exact pieceY (yT (iblk m c 0 t) (iblk m c 1 t) (iblk m c 2 t) (iblk m c 3 t) (iblk m c 4 t) (iblk m c 5 t) (iblk m c 6 t) S) 0 5 _ y x (by omega) (by omega) rfl
  case piece27 => exact pieceY (yT (iblk m c 0 t) (iblk m c 1 t) (iblk m c 2 t) (iblk m c 3 t) (iblk m c 4 t) (iblk m c 5 t) (iblk m c 6 t) S) 0 4 _ y x (by omega) (by omega) rfl
  case piece28 => exact pieceY (yT (iblk m c 0 t) (iblk m c 1 t) (iblk m c 2 t) (iblk m c 3 t) (iblk m c 4 t) (iblk m c 5 t) (iblk m c 6 t) S) 0 3 _ y x (by omega) (by omega) rfl
  case piece29 => exact pieceY (yT (iblk m c 0 t) (iblk m c 1 t) (iblk m c 2 t) (iblk m c 3 t) (iblk m c 4 t) (iblk m c 5 t) (iblk m c 6 t) S) 0 2 _ y x (by omega) (by omega) rfl
  case piece30 => exact pieceY (yT (iblk m c 0 t) (iblk m c 1 t) (iblk m c 2 t) (iblk m c 3 t) (iblk m c 4 t) (iblk m c 5 t) (iblk m c 6 t) S) 0 1 _ y x (by omega) (by omega) rfl
  case piece31 => exact pieceY (yT (iblk m c 0 t) (iblk m c 1 t) (iblk m c 2 t) (iblk m c 3 t) (iblk m c 4 t) (iblk m c 5 t) (iblk m c 6 t) S) 0 0 _ y x (by omega) (by omega) rfl

/-- The state that the last point of a batch leaves. -/
theorem sC (c : Dev nD) (t : Fin cfg0.N) (q0 : ¬ t.val % 8 = 0) (q1 : t.val % 8 = 7) (y : S1x4x128x128.Idx) :
    (outsAt0 m c t.val t.isLt).2.1 y = stN (iblk m c 4 t) (iblk m c 5 t) (iblk m c 1 t) (iblk m c 2 t)
      (outsAt0 m c (t.val - 1) (by omega)).2.2 (y 1) 4 (ix3 0 (y 2) (y 3)) := by
  rw [outsAt0_C m c t q0 q1]
  frame_open
  simp (disch := decide) only [↓ View.readCov_skip, ↓ View.readCov_cons_toLoadRect, ↓ View.readCov_fill]
  frame_out
  simp only [read_unread_whole]
  generalize (outsAt0 m c (t.val - 1) (by omega)).2.2 = S
  refine out3 _ (fun p => stN (iblk m c 4 t) (iblk m c 5 t) (iblk m c 1 t) (iblk m c 2 t) S p 4) (fun z => ?_) y
  rw [View.readCov_eq_canon']
  have hz : (Rect.unit (s := S4x128x128) ![0, 0, 0] S4x128x128.size inb_S4x128x128_S4x128x128_0_0_0).idx z = z := by
    funext a
    refine Fin.ext ((Rect.idx_unit_val _ _ _ _ a).trans ?_)
    match a with
    | 0 => exact Nat.zero_add _
    | 1 => exact Nat.zero_add _
    | 2 => exact Nat.zero_add _
  refine (canon_four (fun p => stN (iblk m c 4 t) (iblk m c 5 t) (iblk m c 1 t) (iblk m c 2 t) S p 4) _ _ _ _ _ rfl rfl rfl rfl _).trans ?_
  exact congrArg (fun z : S4x128x128.Idx => stN (iblk m c 4 t) (iblk m c 5 t) (iblk m c 1 t) (iblk m c 2 t) S (z 0) 4 (ix3 0 (z 1) (z 2))) hz

/-- The output block of the last point of a batch. -/
theorem yC (c : Dev nD) (t : Fin cfg0.N) (q0 : ¬ t.val % 8 = 0) (q1 : t.val % 8 = 7) (y : S512x1024.Idx) :
    (outsAt0 m c t.val t.isLt).1 y = yT (iblk m c 0 t) (iblk m c 1 t) (iblk m c 2 t) (iblk m c 3 t) (iblk m c 4 t) (iblk m c 5 t) (iblk m c 6 t) (outsAt0 m c (t.val - 1) (by omega)).2.2
      ⟨(y 0 : ℕ) / 128, Nat.div_lt_of_lt_mul (y 0).isLt⟩ ⟨(y 1 : ℕ) / 128, Nat.div_lt_of_lt_mul (y 1).isLt⟩
      (ix2 ⟨(y 0 : ℕ) % 128, Nat.mod_lt _ (by omega)⟩ ⟨(y 1 : ℕ) % 128, Nat.mod_lt _ (by omega)⟩) := by
  rw [outsAt0_C m c t q0 q1]
  frame_open
  simp (disch := decide) only [↓ View.readCov_skip, ↓ View.readCov_cons_toLoadRect, ↓ View.readCov_fill]
  frame_out
  simp only [read_unread_whole]
  generalize (outsAt0 m c (t.val - 1) (by omega)).2.2 = S
  canon_tiles x h
  case piece0 => exact pieceY (yT (iblk m c 0 t) (iblk m c 1 t) (iblk m c 2 t) (iblk m c 3 t) (iblk m c 4 t) (iblk m c 5 t) (iblk m c 6 t) S) 3 7 _ y x (by omega) (by omega) rfl
  case piece1 => exact pieceY (yT (iblk m c 0 t) (iblk m c 1 t) (iblk m c 2 t) (iblk m c 3 t) (iblk m c 4 t) (iblk m c 5 t) (iblk m c 6 t) S) 3 6 _ y x (by omega) (by omega) rfl
  case piece2 => exact pieceY (yT (iblk m c 0 t) (iblk m c 1 t) (iblk m c 2 t) (iblk m c 3 t) (iblk m c 4 t) (iblk m c 5 t) (iblk m c 6 t) S) 3 5 _ y x (by omega) (by omega) rfl
  case piece3 => exact pieceY (yT (iblk m c 0 t) (iblk m c 1 t) (iblk m c 2 t) (iblk m c 3 t) (iblk m c 4 t) (iblk m c 5 t) (iblk m c 6 t) S) 3 4 _ y x (by omega) (by omega) rfl
  case piece4 => exact pieceY (yT (iblk m c 0 t) (iblk m c 1 t) (iblk m c 2 t) (iblk m c 3 t) (iblk m c 4 t) (iblk m c 5 t) (iblk m c 6 t) S) 3 3 _ y x (by omega) (by omega) rfl
  case piece5 => exact pieceY (yT (iblk m c 0 t) (iblk m c 1 t) (iblk m c 2 t) (iblk m c 3 t) (iblk m c 4 t) (iblk m c 5 t) (iblk m c 6 t) S) 3 2 _ y x (by omega) (by omega) rfl
  case piece6 => exact pieceY (yT (iblk m c 0 t) (iblk m c 1 t) (iblk m c 2 t) (iblk m c 3 t) (iblk m c 4 t) (iblk m c 5 t) (iblk m c 6 t) S) 3 1 _ y x (by omega) (by omega) rfl
  case piece7 => exact pieceY (yT (iblk m c 0 t) (iblk m c 1 t) (iblk m c 2 t) (iblk m c 3 t) (iblk m c 4 t) (iblk m c 5 t) (iblk m c 6 t) S) 3 0 _ y x (by omega) (by omega) rfl
  case piece8 => exact pieceY (yT (iblk m c 0 t) (iblk m c 1 t) (iblk m c 2 t) (iblk m c 3 t) (iblk m c 4 t) (iblk m c 5 t) (iblk m c 6 t) S) 2 7 _ y x (by omega) (by omega) rfl
  case piece9 => exact pieceY (yT (iblk m c 0 t) (iblk m c 1 t) (iblk m c 2 t) (iblk m c 3 t) (iblk m c 4 t) (iblk m c 5 t) (iblk m c 6 t) S) 2 6 _ y x (by omega) (by omega) rfl
  case piece10 => exact pieceY (yT (iblk m c 0 t) (iblk m c 1 t) (iblk m c 2 t) (iblk m c 3 t) (iblk m c 4 t) (iblk m c 5 t) (iblk m c 6 t) S) 2 5 _ y x (by omega) (by omega) rfl
  case piece11 => exact pieceY (yT (iblk m c 0 t) (iblk m c 1 t) (iblk m c 2 t) (iblk m c 3 t) (iblk m c 4 t) (iblk m c 5 t) (iblk m c 6 t) S) 2 4 _ y x (by omega) (by omega) rfl
  case piece12 => exact pieceY (yT (iblk m c 0 t) (iblk m c 1 t) (iblk m c 2 t) (iblk m c 3 t) (iblk m c 4 t) (iblk m c 5 t) (iblk m c 6 t) S) 2 3 _ y x (by omega) (by omega) rfl
  case piece13 => exact pieceY (yT (iblk m c 0 t) (iblk m c 1 t) (iblk m c 2 t) (iblk m c 3 t) (iblk m c 4 t) (iblk m c 5 t) (iblk m c 6 t) S) 2 2 _ y x (by omega) (by omega) rfl
  case piece14 => exact pieceY (yT (iblk m c 0 t) (iblk m c 1 t) (iblk m c 2 t) (iblk m c 3 t) (iblk m c 4 t) (iblk m c 5 t) (iblk m c 6 t) S) 2 1 _ y x (by omega) (by omega) rfl
  case piece15 => exact pieceY (yT (iblk m c 0 t) (iblk m c 1 t) (iblk m c 2 t) (iblk m c 3 t) (iblk m c 4 t) (iblk m c 5 t) (iblk m c 6 t) S) 2 0 _ y x (by omega) (by omega) rfl
  case piece16 => exact pieceY (yT (iblk m c 0 t) (iblk m c 1 t) (iblk m c 2 t) (iblk m c 3 t) (iblk m c 4 t) (iblk m c 5 t) (iblk m c 6 t) S) 1 7 _ y x (by omega) (by omega) rfl
  case piece17 => exact pieceY (yT (iblk m c 0 t) (iblk m c 1 t) (iblk m c 2 t) (iblk m c 3 t) (iblk m c 4 t) (iblk m c 5 t) (iblk m c 6 t) S) 1 6 _ y x (by omega) (by omega) rfl
  case piece18 => exact pieceY (yT (iblk m c 0 t) (iblk m c 1 t) (iblk m c 2 t) (iblk m c 3 t) (iblk m c 4 t) (iblk m c 5 t) (iblk m c 6 t) S) 1 5 _ y x (by omega) (by omega) rfl
  case piece19 => exact pieceY (yT (iblk m c 0 t) (iblk m c 1 t) (iblk m c 2 t) (iblk m c 3 t) (iblk m c 4 t) (iblk m c 5 t) (iblk m c 6 t) S) 1 4 _ y x (by omega) (by omega) rfl
  case piece20 => exact pieceY (yT (iblk m c 0 t) (iblk m c 1 t) (iblk m c 2 t) (iblk m c 3 t) (iblk m c 4 t) (iblk m c 5 t) (iblk m c 6 t) S) 1 3 _ y x (by omega) (by omega) rfl
  case piece21 => exact pieceY (yT (iblk m c 0 t) (iblk m c 1 t) (iblk m c 2 t) (iblk m c 3 t) (iblk m c 4 t) (iblk m c 5 t) (iblk m c 6 t) S) 1 2 _ y x (by omega) (by omega) rfl
  case piece22 => exact pieceY (yT (iblk m c 0 t) (iblk m c 1 t) (iblk m c 2 t) (iblk m c 3 t) (iblk m c 4 t) (iblk m c 5 t) (iblk m c 6 t) S) 1 1 _ y x (by omega) (by omega) rfl
  case piece23 => exact pieceY (yT (iblk m c 0 t) (iblk m c 1 t) (iblk m c 2 t) (iblk m c 3 t) (iblk m c 4 t) (iblk m c 5 t) (iblk m c 6 t) S) 1 0 _ y x (by omega) (by omega) rfl
  case piece24 => exact pieceY (yT (iblk m c 0 t) (iblk m c 1 t) (iblk m c 2 t) (iblk m c 3 t) (iblk m c 4 t) (iblk m c 5 t) (iblk m c 6 t) S) 0 7 _ y x (by omega) (by omega) rfl
  case piece25 => exact pieceY (yT (iblk m c 0 t) (iblk m c 1 t) (iblk m c 2 t) (iblk m c 3 t) (iblk m c 4 t) (iblk m c 5 t) (iblk m c 6 t) S) 0 6 _ y x (by omega) (by omega) rfl
  case piece26 => exact pieceY (yT (iblk m c 0 t) (iblk m c 1 t) (iblk m c 2 t) (iblk m c 3 t) (iblk m c 4 t) (iblk m c 5 t) (iblk m c 6 t) S) 0 5 _ y x (by omega) (by omega) rfl
  case piece27 => exact pieceY (yT (iblk m c 0 t) (iblk m c 1 t) (iblk m c 2 t) (iblk m c 3 t) (iblk m c 4 t) (iblk m c 5 t) (iblk m c 6 t) S) 0 4 _ y x (by omega) (by omega) rfl
  case piece28 => exact pieceY (yT (iblk m c 0 t) (iblk m c 1 t) (iblk m c 2 t) (iblk m c 3 t) (iblk m c 4 t) (iblk m c 5 t) (iblk m c 6 t) S) 0 3 _ y x (by omega) (by omega) rfl
  case piece29 => exact pieceY (yT (iblk m c 0 t) (iblk m c 1 t) (iblk m c 2 t) (iblk m c 3 t) (iblk m c 4 t) (iblk m c 5 t) (iblk m c 6 t) S) 0 2 _ y x (by omega) (by omega) rfl
  case piece30 => exact pieceY (yT (iblk m c 0 t) (iblk m c 1 t) (iblk m c 2 t) (iblk m c 3 t) (iblk m c 4 t) (iblk m c 5 t) (iblk m c 6 t) S) 0 1 _ y x (by omega) (by omega) rfl
  case piece31 => exact pieceY (yT (iblk m c 0 t) (iblk m c 1 t) (iblk m c 2 t) (iblk m c 3 t) (iblk m c 4 t) (iblk m c 5 t) (iblk m c 6 t) S) 0 0 _ y x (by omega) (by omega) rfl

end Cert.Proof.RetentionRun

end
-- ==== Proof.ReferenceSteps.lean ====
module

public import proofs.«01_k».proof.Proof.Gen.ReferenceIdeal.Run
public import proofs.«01_k».proof.Proof.Gen.ReferenceIdeal.Step

/-! The retention reference's loop, trip by trip: whatever the buffers hold before a trip is `step` applied once more after it. -/

@[expose] public section

set_option maxRecDepth 16384

noncomputable section

namespace Cert.Proof.ReferenceSteps

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The buffers the loop carries hold the state `s`, and its counter holds `n`. -/
structure At (V : Valuation τ sig (Elt F)) (s : Step.State F) (n : ℕ) : Prop where
  state : V (Proc.devRef .tc main_v87_4) = s.main_v87_4
  outs : V (Proc.devRef .tc main_v87_5) = s.main_v87_5
  qs : V (Proc.devRef .tc main_v87_0) = s.main_v87_0
  ks : V (Proc.devRef .tc main_v87_1) = s.main_v87_1
  vs : V (Proc.devRef .tc main_v87_2) = s.main_v87_2
  count : V (Proc.devRef .tc main_v87_3) = constantI S_ 32 (BitVec.ofNat 32 n)

variable {V : Valuation τ sig (Elt F)} {s : Step.State F} {n : ℕ}

/-- The trip's queries. -/
theorem at_q (w : At V s n) : res_main_while0b_v111 V = Step.b5 n s := by
  unfold res_main_while0b_v111
  rw [w.qs, w.count]
  rfl

/-- The trip's keys. -/
theorem at_k (w : At V s n) : res_main_while0b_v112 V = Step.b11 n s := by
  unfold res_main_while0b_v112
  rw [w.ks, w.count]
  rfl

/-- The trip's values. -/
theorem at_v (w : At V s n) : res_main_while0b_v113 V = Step.b17 n s := by
  unfold res_main_while0b_v113
  rw [w.vs, w.count]
  rfl

/-- The heads' logarithms of the decay. -/
theorem at_lg (w : At V s n) : res_main_while0b_v120 V = Step.b26 n s := rfl

/-- The row numbers. -/
theorem at_i (w : At V s n) : res_main_while0b_v121 V = Step.b27 n s := rfl

/-- The differences of row numbers. -/
theorem at_d (w : At V s n) : res_main_while0b_v126 V = Step.b32 n s := rfl

/-- The state after a trip. -/
theorem next_state (w : At V s n) : step_main_v87_4 V = (Step.step n s).main_v87_4 := by
  unfold step_main_v87_4
  rw [w.state, at_k w, at_v w]
  rfl

/-- The outputs after a trip. -/
theorem next_outs (w : At V s n) : step_main_v87_5 V = (Step.step n s).main_v87_5 := by
  unfold step_main_v87_5
  rw [w.state, w.outs, w.count, at_q w, at_k w, at_v w]
  rfl

/-- The counter after a trip. -/
theorem next_count (w : At V s n) : step_main_v87_3 V = constantI S_ 32 (BitVec.ofNat 32 (n + 1)) := by
  unfold step_main_v87_3
  rw [w.count]
  funext y
  show BitVec.ofNat 32 n + 1#32 = BitVec.ofNat 32 (n + 1)
  rw [BitVec.ofNat_add]

/-- A trip takes the state by one step. -/
theorem next (w : At V s n) : At (STEP V) (Step.step n s) (n + 1) :=
  ⟨(STEP_main_v87_4 V).trans (next_state w), (STEP_main_v87_5 V).trans (next_outs w), (STEP_main_v87_0 V).trans w.qs,
    (STEP_main_v87_1 V).trans w.ks, (STEP_main_v87_2 V).trans w.vs, (STEP_main_v87_3 V).trans (next_count w)⟩

variable (m : (ℓ : Loc nD τ sig) → Buf (Elt F) ℓ) (c : Dev nD)

/-- The states the trips go through. -/
def states : ℕ → Step.State F
  | 0 => Step.init (m ((c.tc : Thread nD τ).loc main_arg0))
  | n + 1 => Step.step n (states n)

set_option maxRecDepth 65536 in
set_option maxHeartbeats 800000 in
/-- The buffers before the first trip. -/
theorem entry : At (entryContents preI m c) (states m c 0) 0 := by
  constructor <;> (simp only [entryContents, afterL_cons, afterL_nil]; after_reads_simp) <;> rfl

/-- The buffers before every trip. -/
theorem before (k : ℕ) : At (STEP^[k] (entryContents preI m c)) (states m c k) k := by
  induction k with
  | zero => exact entry m c
  | succ k ih =>
    rw [Function.iterate_succ_apply']
    exact next ih

/-- The first result, of the last state. -/
theorem result_out (w : At V s n) : out_main_v109 V
    = Step.R_main_v109 s (V (Proc.devRef .tc main_arg0)) (V (Proc.devRef .tc main_arg1)) := by
  unfold out_main_v109
  rw [w.outs]
  rfl

/-- The second result, of the last state. -/
theorem result_state (w : At V s n) : out_main_v110 V = Step.R_main_v110 s := by
  unfold out_main_v110
  rw [w.state]
  rfl

/-- The reference leaves the two results that the state after 32 trips gives, and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v109) = Step.R_main_v109 (states m c 32) (m ((c.tc : Thread nD τ).loc main_arg0))
          (m ((c.tc : Thread nD τ).loc main_arg1))
      ∧ r.2.mem ((c.tc : Thread nD τ).loc main_v110) = Step.R_main_v110 (states m c 32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ q c => ⟨(q c).1.trans ?_, (q c).2.1.trans (result_state (before m c 32)), (q c).2.2.1,
    (q c).2.2.2⟩) (Value.run m ρ)
  rw [result_out (before m c 32), iter_main_arg0 m c 32, iter_main_arg1 m c 32]

end Cert.Proof.ReferenceSteps
-- ==== Proof.RetentionAt.lean ====
module

public import proofs.«01_k».proof.Proof.RetentionTile

/-! The retention kernel's arithmetic of one chunk, element by element. -/

@[expose] public section

set_option maxRecDepth 16384

noncomputable section

open Idealize.ShloMosaic Idealize.ShloMosaic.TcCoe Idealize.SL.Sem

namespace Cert.Proof.RetentionTile

open Cert.KernelIdeal Cert.KernelIdeal.Gen

set_option maxHeartbeats 1000000

/-- A row number as a number. -/
def fl (n : ℕ) : EReal := FloatOps.sitofp (F := Ideal) .f32 (BitVec.ofNat 32 n)

/-- The decay from row `j` to row `i` of a chunk, zero where `j` comes after `i`. -/
def decay (l : EReal) (i j : ℕ) : EReal := if 0 ≤ fl i - fl j then Ideal.exp (max (fl i - fl j) 0 * l) else 0

/-- The root mean square of a row of a head, scaled and gated, at one lane. -/
def epi (o : Fin 128 → EReal) (ng : Fin 128 → EReal) (g : EReal) (e : Fin 128) : EReal :=
  o e * Ideal.rsqrt (Ideal.div (∑ x, o x * o x) (Ideal.ofBits FTy.f32 1124073472#32) + Ideal.ofBits FTy.f32 897988541#32) * ng e
    * (g * Ideal.logistic g)

/-- The gated row at an element. -/
theorem gated_at (o g : FVec Ideal S128x128 .f32) (ng : FVec Ideal S1x128 .f32) (i e : Fin 128) :
    gated o g ng (ix2 i e) = epi (fun x => o (ix2 i x)) (fun x => ng (ix2 0 x)) (g (ix2 i e)) e := by
  pointwise [gated]
  rfl

/-- Row numbers below 128 keep their low seven bits. -/
theorem low7 : ∀ x : Fin 128, IntOp.andi (BitVec.ofNat 32 x.val) 127#32 = BitVec.ofNat 32 x.val := by decide +kernel

/-- Row numbers below 128 lie in the same chunk. -/
theorem same : ∀ i : Fin 128, IntOp.shrsi ArithUnit.vector (BitVec.ofNat 32 i.val) 7#32 = 0#32 := by decide +kernel

/-- The difference of two row numbers, as integers. -/
theorem subInt : ∀ i j : Fin 128, (IntOp.subi (BitVec.ofNat 32 i.val) (BitVec.ofNat 32 j.val)).toInt
    = (BitVec.ofNat 32 i.val).toInt - (BitVec.ofNat 32 j.val).toInt := by decide +kernel

/-- The difference of two row numbers, as numbers. -/
theorem subNum (i j : Fin 128) : FloatOps.sitofp (F := Ideal) .f32 (IntOp.subi (BitVec.ofNat 32 i.val) (BitVec.ofNat 32 j.val))
    = fl i.val - fl j.val := by
  show (((IntOp.subi (BitVec.ofNat 32 i.val) (BitVec.ofNat 32 j.val)).toInt : ℝ) : EReal)
    = (((BitVec.ofNat 32 i.val).toInt : ℝ) : EReal) - (((BitVec.ofNat 32 j.val).toInt : ℝ) : EReal)
  rw [subInt]
  push_cast
  rfl

/-- The output within the chunk at an element. -/
theorem inner_at (l : Ideal .f32) (q : FVec Ideal S128x128 .bf16) (kp vh : FVec Ideal S128x128 .f32) (i e : Fin 128) :
    inner l q kp vh (ix2 i e) = ∑ j : Fin 128, vh (ix2 j e) * ((∑ z : Fin 128, q (ix2 i z) * kp (ix2 j z)) * decay l i.val j.val) := by
  pointwise [inner, scores, k0_pay10, k0_pay11, k0_pay12, k0_pay13]
  refine Finset.sum_congr rfl fun j _ => ?_
  rw [low7 i, low7 j, same i, same j, subNum]
  unfold decay
  by_cases w : (0 : EReal) ≤ fl i.val - fl j.val
  · rw [if_pos w]
    have : IntOp.andi (IntOp.cmpi CmpIPredicate.eq 0#32 0#32) (BitVec.ofBool (decide ((0 : EReal) ≤ fl i.val - fl j.val))) = 1#1 := by
      rw [decide_eq_true w]; decide
    rw [this]
    exact mul_comm _ _
  · rw [if_neg w]
    have : IntOp.andi (IntOp.cmpi CmpIPredicate.eq 0#32 0#32) (BitVec.ofBool (decide ((0 : EReal) ≤ fl i.val - fl j.val))) = 0#1 := by
      rw [decide_eq_false w]; decide
    rw [this, mul_zero, mul_zero]
    rfl

/-- A head's output at an element. -/
theorem out_at (l : Ideal .f32) (q : FVec Ideal S128x128 .bf16) (kp vh : FVec Ideal S128x128 .f32) (S : FVec Ideal S1x128x128 .f32) (i e : Fin 128) :
    out l q kp vh S (ix2 i e) = (∑ j : Fin 128, vh (ix2 j e) * ((∑ z : Fin 128, q (ix2 i z) * kp (ix2 j z)) * decay l i.val j.val))
      + (∑ z : Fin 128, S (ix3 0 z e) * q (ix2 i z)) * Ideal.exp ((fl i.val + 1) * l) := by
  rw [← inner_at]
  pointwise [out, decStart, k0_pay14]
  rw [low7 i, Finset.sum_congr rfl fun z _ => mul_comm (q (ix2 i z)) (S (ix3 0 z e))]
  rfl

/-- The comparison of a lane with 64. -/
theorem lane64 : ∀ e : Fin 128, IntOp.cmpi CmpIPredicate.slt (BitVec.ofNat 32 e.val) 64#32 = if e.val < 64 then 1#1 else 0#1 := by decide +kernel

/-- The even head's queries at an element. -/
theorem qm_even (qp : FVec Ideal S128x128 .f32) (i e : Fin 128) : qm false qp (ix2 i e) = if e.val < 64 then qp (ix2 i e) else 0 := by
  pointwise [qm, k0_pay15]
  rw [lane64]
  split <;> rfl

/-- The odd head's queries at an element. -/
theorem qm_odd (qp : FVec Ideal S128x128 .f32) (i e : Fin 128) : qm true qp (ix2 i e) = if e.val < 64 then 0 else qp (ix2 i e) := by
  pointwise [qm, k0_pay15]
  rw [lane64]
  split <;> rfl

/-- A sum over 128 lanes whose upper half is nothing. -/
theorem sum_low (f : Fin 128 → EReal) (z : ∀ e : Fin 128, ¬ e.val < 64 → f e = 0) : ∑ e, f e = ∑ d : Fin 64, f ⟨d.val, by omega⟩ := by
  rw [show (∑ e : Fin 128, f e) = (∑ d : Fin 64, f (Fin.castAdd 64 d)) + ∑ d : Fin 64, f (Fin.natAdd 64 d) from
    Fin.sum_univ_add (a := 64) (b := 64) f,
    Finset.sum_eq_zero (f := fun d : Fin 64 => f (Fin.natAdd 64 d)) (fun d _ => z _ (by show ¬ 64 + d.val < 64; omega)), add_zero]
  rfl

/-- A sum over 128 lanes whose lower half is nothing. -/
theorem sum_high (f : Fin 128 → EReal) (z : ∀ e : Fin 128, e.val < 64 → f e = 0) : ∑ e, f e = ∑ d : Fin 64, f ⟨64 + d.val, by omega⟩ := by
  rw [show (∑ e : Fin 128, f e) = (∑ d : Fin 64, f (Fin.castAdd 64 d)) + ∑ d : Fin 64, f (Fin.natAdd 64 d) from
    Fin.sum_univ_add (a := 64) (b := 64) f,
    Finset.sum_eq_zero (f := fun d : Fin 64 => f (Fin.castAdd 64 d)) (fun d _ => z _ (by show d.val < 64; omega)), zero_add]
  rfl

/-- A selection whose condition holds. -/
theorem sel1 (a b : EReal) : Scalar.select (1#1) a b = a := rfl

/-- A selection whose condition does not hold. -/
theorem sel0 (a b : EReal) : Scalar.select (0#1) a b = b := rfl

/-- The state after a chunk at an element: the state before it with the chunk's decay, and the chunk's keys and values with
    their decay to the chunk's end. -/
theorem upd_at (c s k : FVec Ideal S128x512 .f32) (v : FVec Ideal S128x1024 .f32) (S : FVec Ideal S1x128x128 .f32) (h : Fin 8) (d : Fin 64) (e : Fin 128) :
    upd c s k v S ⟨h.val / 2, by omega⟩ (ix3 0 ⟨64 * (h.val % 2) + d.val, by omega⟩ e)
      = S (ix3 0 ⟨64 * (h.val % 2) + d.val, by omega⟩ e) * gcc h
        + ∑ x : Fin 128, rotK c s k (ix2 x ⟨64 * h.val + d.val, by omega⟩)
            * Ideal.exp ((Ideal.ofBits FTy.f32 1123942400#32 - fl x.val) * lgc h) * v (ix2 x ⟨128 * h.val + e.val, by omega⟩) := by
  pointwise [upd, kdec, decEnd, pair, head, k0_pay14, k0_pay15]
  rw [lane64 ⟨64 * (h.val % 2) + d.val, by omega⟩]
  rcases Nat.mod_two_eq_zero_or_one h.val with w | w
  · have e1 : ev ⟨h.val / 2, by omega⟩ = h := Fin.ext (show 2 * (h.val / 2) = h.val by omega)
    rw [if_pos (show 64 * (h.val % 2) + d.val < 64 by omega)]
    simp only [sel1]
    refine congrArg₂ (· + ·) (congrArg₂ (· * ·) rfl (congrArg gcc e1)) (Finset.sum_congr rfl fun x _ => ?_)
    exact congrArg₂ (· * ·) (congrArg₂ (· * ·) (congrArg _ (congrArg (ix2 x) (Fin.ext (show 128 * (h.val / 2) + (64 * (h.val % 2) + d.val) = 64 * h.val + d.val by omega))))
        (congrArg Ideal.exp (congrArg₂ (· * ·) (congrArg₂ (· - ·) rfl (congrArg (FloatOps.sitofp (F := Ideal) .f32) (low7 x))) (congrArg lgc e1))))
      (congrArg _ (congrArg (ix2 x) (Fin.ext (show 128 * (2 * (h.val / 2)) + e.val = 128 * h.val + e.val by omega))))
  · have e1 : od ⟨h.val / 2, by omega⟩ = h := Fin.ext (show 2 * (h.val / 2) + 1 = h.val by omega)
    rw [if_neg (show ¬ 64 * (h.val % 2) + d.val < 64 by omega)]
    simp only [sel0]
    refine congrArg₂ (· + ·) (congrArg₂ (· * ·) rfl (congrArg gcc e1)) (Finset.sum_congr rfl fun x _ => ?_)
    exact congrArg₂ (· * ·) (congrArg₂ (· * ·) (congrArg _ (congrArg (ix2 x) (Fin.ext (show 128 * (h.val / 2) + (64 * (h.val % 2) + d.val) = 64 * h.val + d.val by omega))))
        (congrArg Ideal.exp (congrArg₂ (· * ·) (congrArg₂ (· - ·) rfl (congrArg (FloatOps.sitofp (F := Ideal) .f32) (low7 x))) (congrArg lgc e1))))
      (congrArg _ (congrArg (ix2 x) (Fin.ext (show 128 * (2 * (h.val / 2) + 1) + e.val = 128 * h.val + e.val by omega))))

/-- The lanes' places within their heads' halves. -/
theorem lane32 : ∀ l : Fin 512, IntOp.cmpi CmpIPredicate.slt
            (Scalar.select
              (IntOp.andi
                (IntOp.xori
                  (IntOp.cmpi CmpIPredicate.slt
                    (IntOp.remsi ArithUnit.vector (BitVec.ofNat 32 l.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 l.val)
                    (Scalar.select (Scalar.cmpi CmpIPredicate.eq 64#32 0#32) 1#32 64#32))
                  0#32))
              (IntOp.addi
                (IntOp.remsi ArithUnit.vector (BitVec.ofNat 32 l.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 l.val)
                (Scalar.select (Scalar.cmpi CmpIPredicate.eq 64#32 0#32) 1#32 64#32)))
            32#32 = if l.val % 64 < 32 then 1#1 else 0#1 := by decide +kernel

/-- A rotated row at a lane: the other half of the same head's lanes enters with the sine. -/
def rotAt (x : Fin 512 → EReal) (c s : EReal) (h : Fin 8) (d : Fin 64) : EReal :=
  x ⟨64 * h.val + d.val, by omega⟩ * c
    + (if w : d.val < 32 then x ⟨64 * h.val + d.val + 32, by omega⟩ else x ⟨64 * h.val + d.val - 32, by omega⟩) * s

/-- The rotated queries at an element. -/
theorem rotQ_at (c s x : FVec Ideal S128x512 .f32) (i : Fin 128) (h : Fin 8) (d : Fin 64) :
    rotQ c s x (ix2 i ⟨64 * h.val + d.val, by omega⟩) = rotAt (fun l => x (ix2 i l)) (c (ix2 i ⟨64 * h.val + d.val, by omega⟩))
      (s (ix2 i ⟨64 * h.val + d.val, by omega⟩)) h d := by
  pointwise [rotQ, k0_pay8, k0_pay6, k0_pay7]
  rw [lane32 ⟨64 * h.val + d.val, by omega⟩]
  unfold rotAt
  by_cases w : d.val < 32
  · rw [if_pos (show (64 * h.val + d.val) % 64 < 32 by omega), dif_pos w]
    exact congrArg₂ (· + ·) rfl (congrArg₂ (· * ·) (congrArg x (congrArg (ix2 i) (Fin.ext (show (64 * h.val + d.val + 512 - 480) % 512 = 64 * h.val + d.val + 32 by omega)))) rfl)
  · rw [if_neg (show ¬ (64 * h.val + d.val) % 64 < 32 by omega), dif_neg w]
    exact congrArg₂ (· + ·) rfl (congrArg₂ (· * ·) (congrArg x (congrArg (ix2 i) (Fin.ext (show (64 * h.val + d.val + 512 - 32) % 512 = 64 * h.val + d.val - 32 by omega)))) rfl)

/-- The rotated keys at an element. -/
theorem rotK_at (c s x : FVec Ideal S128x512 .f32) (i : Fin 128) (h : Fin 8) (d : Fin 64) :
    rotK c s x (ix2 i ⟨64 * h.val + d.val, by omega⟩) = rotAt (fun l => x (ix2 i l)) (c (ix2 i ⟨64 * h.val + d.val, by omega⟩))
      (s (ix2 i ⟨64 * h.val + d.val, by omega⟩)) h d * Ideal.ofBits FTy.f32 0x3E000000#32 := by
  pointwise [rotK, k0_pay9, k0_pay6, k0_pay7]
  rw [lane32 ⟨64 * h.val + d.val, by omega⟩]
  unfold rotAt
  by_cases w : d.val < 32
  · rw [if_pos (show (64 * h.val + d.val) % 64 < 32 by omega), dif_pos w]
    exact congrArg₂ (· * ·) (congrArg₂ (· + ·) rfl (congrArg₂ (· * ·) (congrArg x (congrArg (ix2 i) (Fin.ext (show (64 * h.val + d.val + 512 - 480) % 512 = 64 * h.val + d.val + 32 by omega)))) rfl)) rfl
  · rw [if_neg (show ¬ (64 * h.val + d.val) % 64 < 32 by omega), dif_neg w]
    exact congrArg₂ (· * ·) (congrArg₂ (· + ·) rfl (congrArg₂ (· * ·) (congrArg x (congrArg (ix2 i) (Fin.ext (show (64 * h.val + d.val + 512 - 32) % 512 = 64 * h.val + d.val - 32 by omega)))) rfl)) rfl

/-- A head's output row of a chunk, of the chunk's queries, keys and values of the head and of the head's state. -/
def outAt (l : EReal) (q k : Fin 128 → Fin 64 → EReal) (v : Fin 128 → Fin 128 → EReal) (S : Fin 64 → Fin 128 → EReal) (i e : Fin 128) : EReal :=
  (∑ j : Fin 128, v j e * ((∑ d : Fin 64, q i d * k j d) * decay l i.val j.val))
    + (∑ d : Fin 64, S d e * q i d) * Ideal.exp ((fl i.val + 1) * l)

/-- The even head's output at an element. -/
theorem out_even (c s q k : FVec Ideal S128x512 .f32) (v : FVec Ideal S128x1024 .f32) (S : FVec Ideal S1x128x128 .f32) (p : Fin 4) (i e : Fin 128) :
    out (lgc (ev p)) (qm false (pair (rotQ c s q) p)) (pair (rotK c s k) p) (head v (ev p)) S (ix2 i e)
      = outAt (lgc (ev p)) (fun i d => rotQ c s q (ix2 i ⟨64 * (ev p).val + d.val, by have := (ev p).isLt; omega⟩))
          (fun j d => rotK c s k (ix2 j ⟨64 * (ev p).val + d.val, by have := (ev p).isLt; omega⟩))
          (fun j e => v (ix2 j ⟨128 * (ev p).val + e.val, by have := (ev p).isLt; omega⟩))
          (fun d e => S (ix3 0 ⟨64 * ((ev p).val % 2) + d.val, by omega⟩ e)) i e := by
  have a (z : Fin 64) : pair (rotQ c s q) p (ix2 i ⟨z.val, by omega⟩) = rotQ c s q (ix2 i ⟨64 * (ev p).val + z.val, by have := (ev p).isLt; omega⟩) := by
    pointwise [pair]
    exact congrArg _ (congrArg (ix2 i) (Fin.ext (show 128 * p.val + z.val = 64 * (2 * p.val) + z.val by omega)))
  have b (j : Fin 128) (z : Fin 64) : pair (rotK c s k) p (ix2 j ⟨z.val, by omega⟩) = rotK c s k (ix2 j ⟨64 * (ev p).val + z.val, by have := (ev p).isLt; omega⟩) := by
    pointwise [pair]
    exact congrArg _ (congrArg (ix2 j) (Fin.ext (show 128 * p.val + z.val = 64 * (2 * p.val) + z.val by omega)))
  have f (j : Fin 128) : head v (ev p) (ix2 j e) = v (ix2 j ⟨128 * (ev p).val + e.val, by have := (ev p).isLt; omega⟩) := by
    pointwise [head]
  rw [out_at]
  unfold outAt
  refine congrArg₂ (· + ·) (Finset.sum_congr rfl fun j _ => ?_) (congrArg₂ (· * ·) ?_ rfl)
  · rw [f, sum_low _ (fun z w => by rw [qm_even, if_neg w, zero_mul])]
    refine congrArg₂ (· * ·) rfl (congrArg₂ (· * ·) (Finset.sum_congr rfl fun d _ => ?_) rfl)
    rw [qm_even, if_pos (show d.val < 64 from d.isLt), a, b]
  · rw [sum_low _ (fun z w => by rw [qm_even, if_neg w, mul_zero])]
    refine Finset.sum_congr rfl fun d _ => ?_
    rw [qm_even, if_pos (show d.val < 64 from d.isLt), a]
    exact congrArg₂ (· * ·) (congrArg S (congrArg (ix3 0 · e) (Fin.ext (show d.val = 64 * (2 * p.val % 2) + d.val by omega)))) rfl

/-- The odd head's output at an element. -/
theorem out_odd (c s q k : FVec Ideal S128x512 .f32) (v : FVec Ideal S128x1024 .f32) (S : FVec Ideal S1x128x128 .f32) (p : Fin 4) (i e : Fin 128) :
    out (lgc (od p)) (qm true (pair (rotQ c s q) p)) (pair (rotK c s k) p) (head v (od p)) S (ix2 i e)
      = outAt (lgc (od p)) (fun i d => rotQ c s q (ix2 i ⟨64 * (od p).val + d.val, by have := (od p).isLt; omega⟩))
          (fun j d => rotK c s k (ix2 j ⟨64 * (od p).val + d.val, by have := (od p).isLt; omega⟩))
          (fun j e => v (ix2 j ⟨128 * (od p).val + e.val, by have := (od p).isLt; omega⟩))
          (fun d e => S (ix3 0 ⟨64 * ((od p).val % 2) + d.val, by omega⟩ e)) i e := by
  have a (z : Fin 64) : pair (rotQ c s q) p (ix2 i ⟨64 + z.val, by omega⟩) = rotQ c s q (ix2 i ⟨64 * (od p).val + z.val, by have := (od p).isLt; omega⟩) := by
    pointwise [pair]
    exact congrArg _ (congrArg (ix2 i) (Fin.ext (show 128 * p.val + (64 + z.val) = 64 * (2 * p.val + 1) + z.val by omega)))
  have b (j : Fin 128) (z : Fin 64) : pair (rotK c s k) p (ix2 j ⟨64 + z.val, by omega⟩) = rotK c s k (ix2 j ⟨64 * (od p).val + z.val, by have := (od p).isLt; omega⟩) := by
    pointwise [pair]
    exact congrArg _ (congrArg (ix2 j) (Fin.ext (show 128 * p.val + (64 + z.val) = 64 * (2 * p.val + 1) + z.val by omega)))
  have f (j : Fin 128) : head v (od p) (ix2 j e) = v (ix2 j ⟨128 * (od p).val + e.val, by have := (od p).isLt; omega⟩) := by
    pointwise [head]
  rw [out_at]
  unfold outAt
  refine congrArg₂ (· + ·) (Finset.sum_congr rfl fun j _ => ?_) (congrArg₂ (· * ·) ?_ rfl)
  · rw [f, sum_high _ (fun z w => by rw [qm_odd, if_pos w, zero_mul])]
    refine congrArg₂ (· * ·) rfl (congrArg₂ (· * ·) (Finset.sum_congr rfl fun d _ => ?_) rfl)
    rw [qm_odd, if_neg (show ¬ 64 + d.val < 64 by omega), a, b]
  · rw [sum_high _ (fun z w => by rw [qm_odd, if_pos w, mul_zero])]
    refine Finset.sum_congr rfl fun d _ => ?_
    rw [qm_odd, if_neg (show ¬ 64 + d.val < 64 by omega), a]
    exact congrArg₂ (· * ·) (congrArg S (congrArg (ix3 0 · e) (Fin.ext (show 64 + d.val = 64 * ((2 * p.val + 1) % 2) + d.val by omega)))) rfl

end Cert.Proof.RetentionTile

end
-- ==== Proof.ReferenceAt.lean ====
module

public import proofs.«01_k».proof.Proof.ReferenceSteps
public import proofs.«01_k».proof.Proof.RetentionAt

/-! The retention reference, element by element: the state's recursion over chunks and the output of each chunk. -/

@[expose] public section

set_option maxRecDepth 16384

noncomputable section

open Idealize.ShloMosaic Idealize.ShloMosaic.TcCoe Idealize.SL.Sem

namespace Cert.Proof.ReferenceAt

open Cert.ReferenceIdeal Cert.ReferenceIdeal.Gen Cert.ReferenceIdeal.Step
open Cert.Proof.RetentionTile (fl decay epi rotAt outAt)

set_option maxHeartbeats 1000000

/-- The logarithm of a head's decay. -/
def lg (h : Fin 8) : EReal :=
  Ideal.log1p (-Ideal.pow (Ideal.ofBits FTy.f32 1073741824#32) (Ideal.ofBits FTy.f32 3231711232#32 - fl h.val))

/-- A trip's number as the first of five starts. -/
def start (n : ℕ) : Fin 5 → Int := ![(n : Int), 0, 0, 0, 0]

/-- A number below 32, as a word read signed. -/
theorem word32 : ∀ n : Fin 32, (BitVec.ofNat 32 n.val).toInt = n.val := by decide +kernel

/-- The starts the trip computes. -/
theorem start_eq (n : ℕ) (w : n < 32) : (fun k : Fin 5 => (((![(constantI S_ 32 (BitVec.ofNat 32 n) : IVec S_ 32), constantI S_ 32 0#32,
    constantI S_ 32 0#32, constantI S_ 32 0#32, constantI S_ 32 0#32] : Fin 5 → IVec S_ 32) k) (Shape.Idx.first h_S_)).toInt) = start n := by
  funext k
  match k with
  | 0 => exact word32 ⟨n, w⟩
  | 1 => rfl
  | 2 => rfl
  | 3 => rfl
  | 4 => rfl

/-- The trip's queries at an element. -/
theorem b5_at (s : State Ideal) (n : ℕ) (w : n < 32) (b : Fin 2) (i : Fin 128) (h : Fin 8) (d : Fin 64) :
    b5 n s (ix4 b i h d) = s.main_v87_0 (ix5 ⟨n, w⟩ b i h d) := by
  pointwise [b5]
  refine (congrArg (fun q => Host.dynamicSlice S1x2x128x8x64 s.main_v87_0 q sliceFits_S32x2x128x8x64_S1x2x128x8x64 (ix5 0 b i h d)) (start_eq n w)).trans ?_
  refine (Host.dynamicSlice_apply _ _ _ _).trans ?_
  refine congrArg s.main_v87_0 (funext fun a => ?_)
  match a with
  | 0 => exact Fin.ext (by show Host.clampedStart S32x2x128x8x64 S1x2x128x8x64 sliceFits_S32x2x128x8x64_S1x2x128x8x64.1 (start n) 0 + 0 = n; rw [Host.clampedStart_of_le _ _ _ n rfl (by show n + 1 ≤ 32; omega)]; omega)
  | 1 => exact Fin.ext (by show Host.clampedStart S32x2x128x8x64 S1x2x128x8x64 sliceFits_S32x2x128x8x64_S1x2x128x8x64.1 (start n) 1 + b.val = b.val; rw [Host.clampedStart_of_le _ _ _ 0 rfl (by decide)]; omega)
  | 2 => exact Fin.ext (by show Host.clampedStart S32x2x128x8x64 S1x2x128x8x64 sliceFits_S32x2x128x8x64_S1x2x128x8x64.1 (start n) 2 + i.val = i.val; rw [Host.clampedStart_of_le _ _ _ 0 rfl (by decide)]; omega)
  | 3 => exact Fin.ext (by show Host.clampedStart S32x2x128x8x64 S1x2x128x8x64 sliceFits_S32x2x128x8x64_S1x2x128x8x64.1 (start n) 3 + h.val = h.val; rw [Host.clampedStart_of_le _ _ _ 0 rfl (by decide)]; omega)
  | 4 => exact Fin.ext (by show Host.clampedStart S32x2x128x8x64 S1x2x128x8x64 sliceFits_S32x2x128x8x64_S1x2x128x8x64.1 (start n) 4 + d.val = d.val; rw [Host.clampedStart_of_le _ _ _ 0 rfl (by decide)]; omega)

/-- The trip's keys at an element. -/
theorem b11_at (s : State Ideal) (n : ℕ) (w : n < 32) (b : Fin 2) (i : Fin 128) (h : Fin 8) (d : Fin 64) :
    b11 n s (ix4 b i h d) = s.main_v87_1 (ix5 ⟨n, w⟩ b i h d) := by
  pointwise [b11]
  refine (congrArg (fun q => Host.dynamicSlice S1x2x128x8x64 s.main_v87_1 q sliceFits_S32x2x128x8x64_S1x2x128x8x64 (ix5 0 b i h d)) (start_eq n w)).trans ?_
  refine (Host.dynamicSlice_apply _ _ _ _).trans ?_
  refine congrArg s.main_v87_1 (funext fun a => ?_)
  match a with
  | 0 => exact Fin.ext (by show Host.clampedStart S32x2x128x8x64 S1x2x128x8x64 sliceFits_S32x2x128x8x64_S1x2x128x8x64.1 (start n) 0 + 0 = n; rw [Host.clampedStart_of_le _ _ _ n rfl (by show n + 1 ≤ 32; omega)]; omega)
  | 1 => exact Fin.ext (by show Host.clampedStart S32x2x128x8x64 S1x2x128x8x64 sliceFits_S32x2x128x8x64_S1x2x128x8x64.1 (start n) 1 + b.val = b.val; rw [Host.clampedStart_of_le _ _ _ 0 rfl (by decide)]; omega)
  | 2 => exact Fin.ext (by show Host.clampedStart S32x2x128x8x64 S1x2x128x8x64 sliceFits_S32x2x128x8x64_S1x2x128x8x64.1 (start n) 2 + i.val = i.val; rw [Host.clampedStart_of_le _ _ _ 0 rfl (by decide)]; omega)
  | 3 => exact Fin.ext (by show Host.clampedStart S32x2x128x8x64 S1x2x128x8x64 sliceFits_S32x2x128x8x64_S1x2x128x8x64.1 (start n) 3 + h.val = h.val; rw [Host.clampedStart_of_le _ _ _ 0 rfl (by decide)]; omega)
  | 4 => exact Fin.ext (by show Host.clampedStart S32x2x128x8x64 S1x2x128x8x64 sliceFits_S32x2x128x8x64_S1x2x128x8x64.1 (start n) 4 + d.val = d.val; rw [Host.clampedStart_of_le _ _ _ 0 rfl (by decide)]; omega)

/-- The trip's values at an element. -/
theorem b17_at (s : State Ideal) (n : ℕ) (w : n < 32) (b : Fin 2) (i : Fin 128) (h : Fin 8) (d : Fin 128) :
    b17 n s (ix4 b i h d) = s.main_v87_2 (ix5 ⟨n, w⟩ b i h d) := by
  pointwise [b17]
  refine (congrArg (fun q => Host.dynamicSlice S1x2x128x8x128 s.main_v87_2 q sliceFits_S32x2x128x8x128_S1x2x128x8x128 (ix5 0 b i h d)) (start_eq n w)).trans ?_
  refine (Host.dynamicSlice_apply _ _ _ _).trans ?_
  refine congrArg s.main_v87_2 (funext fun a => ?_)
  match a with
  | 0 => exact Fin.ext (by show Host.clampedStart S32x2x128x8x128 S1x2x128x8x128 sliceFits_S32x2x128x8x128_S1x2x128x8x128.1 (start n) 0 + 0 = n; rw [Host.clampedStart_of_le _ _ _ n rfl (by show n + 1 ≤ 32; omega)]; omega)
  | 1 => exact Fin.ext (by show Host.clampedStart S32x2x128x8x128 S1x2x128x8x128 sliceFits_S32x2x128x8x128_S1x2x128x8x128.1 (start n) 1 + b.val = b.val; rw [Host.clampedStart_of_le _ _ _ 0 rfl (by decide)]; omega)
  | 2 => exact Fin.ext (by show Host.clampedStart S32x2x128x8x128 S1x2x128x8x128 sliceFits_S32x2x128x8x128_S1x2x128x8x128.1 (start n) 2 + i.val = i.val; rw [Host.clampedStart_of_le _ _ _ 0 rfl (by decide)]; omega)
  | 3 => exact Fin.ext (by show Host.clampedStart S32x2x128x8x128 S1x2x128x8x128 sliceFits_S32x2x128x8x128_S1x2x128x8x128.1 (start n) 3 + h.val = h.val; rw [Host.clampedStart_of_le _ _ _ 0 rfl (by decide)]; omega)
  | 4 => exact Fin.ext (by show Host.clampedStart S32x2x128x8x128 S1x2x128x8x128 sliceFits_S32x2x128x8x128_S1x2x128x8x128.1 (start n) 4 + d.val = d.val; rw [Host.clampedStart_of_le _ _ _ 0 rfl (by decide)]; omega)

/-- The logarithm of the decay at a head. -/
theorem b26_at (s : State Ideal) (n : ℕ) (h : Fin 8) : b26 n s (ix1 h) = lg h := by
  pointwise [b26, b25, b24, b23, b22, b21, b20, b19, b18]
  rfl

/-- The decay between two rows at an element. -/
theorem b48_at (s : State Ideal) (n : ℕ) (h : Fin 8) (i j : Fin 128) : b48 n s (ix3 h i j) = decay (lg h) i.val j.val := by
  rw [← b26_at s n h]
  pointwise [b48, b47, b46, b45, b44, b43, b42, b41, b40, b39, b38, b37, b36, b35, b34, b33, b32, b31, b30, b29, b28, b27]
  rfl

/-- The state after a trip at an element. -/
theorem b89_at (s : State Ideal) (n : ℕ) (b : Fin 2) (h : Fin 8) (d : Fin 64) (e : Fin 128) :
    b89 n s (ix4 b h d e) = s.main_v87_4 (ix4 b h d e) * Ideal.exp (Ideal.ofBits FTy.f32 1124073472#32 * lg h)
      + ∑ x : Fin 128, b11 n s (ix4 b x h d) * Ideal.exp ((Ideal.ofBits FTy.f32 1123942400#32 - fl x.val) * lg h) * b17 n s (ix4 b x h e) := by
  rw [← b26_at s n h]
  pointwise [b89, b88, b87, b86, b85, b84, b83, b82, b81, b80, b79, b78, b77, b76, b75, b74, b73, b72, b71, b70]
  rfl

/-- The trip's output at an element. -/
theorem b90_at (s : State Ideal) (n : ℕ) (b : Fin 2) (i : Fin 128) (h : Fin 8) (e : Fin 128) :
    b90 n s (ix4 b i h e) = outAt (lg h) (fun i d => b5 n s (ix4 b i h d)) (fun j d => b11 n s (ix4 b j h d)) (fun j e => b17 n s (ix4 b j h e))
      (fun d e => s.main_v87_4 (ix4 b h d e)) i e := by
  unfold outAt
  rw [Finset.sum_congr rfl fun j _ => by rw [← b48_at s n h i j], ← b26_at s n h]
  pointwise [b90, b68, b67, b66, b65, b64, b63, b62, b61, b60, b59, b58, b57, b56, b55, b54, b53, b52, b51, b50, b49]
  rfl

/-- The update lies in the outputs along the axes it fills. -/
theorem clamped : ∀ a : Fin 5, 0 + S1x2x128x8x128.size a ≤ S32x2x128x8x128.size a := by decide

/-- The outputs after a trip at an element: the trip's own output in its place, the others as before. -/
theorem b96_at (s : State Ideal) (n : ℕ) (w : n < 32) (t : Fin 32) (b : Fin 2) (i : Fin 128) (h : Fin 8) (e : Fin 128) :
    b96 n s (ix5 t b i h e) = if t.val = n then b90 n s (ix4 b i h e) else s.main_v87_5 (ix5 t b i h e) := by
  refine (congrArg (fun q => Host.dynamicUpdateSlice s.main_v87_5 (b91 n s) q updateFits_S32x2x128x8x128_S1x2x128x8x128 (ix5 t b i h e)) (start_eq n w)).trans ?_
  show Host.dynamicUpdateSlice s.main_v87_5 (b91 n s) (start n) updateFits_S32x2x128x8x128_S1x2x128x8x128 (ix5 t b i h e) = _
  rw [Host.dynamicUpdateSlice_apply]
  have c0 (q) : Host.clampedStart S32x2x128x8x128 S1x2x128x8x128 q (start n) 0 = n := Host.clampedStart_of_le _ _ _ n rfl (by show n + 1 ≤ 32; omega)
  have c1 (q) : Host.clampedStart S32x2x128x8x128 S1x2x128x8x128 q (start n) 1 = 0 :=
    Host.clampedStart_of_le (s := S32x2x128x8x128) (t := S1x2x128x8x128) q (start n) 1 0 rfl (clamped 1)
  have c2 (q) : Host.clampedStart S32x2x128x8x128 S1x2x128x8x128 q (start n) 2 = 0 :=
    Host.clampedStart_of_le (s := S32x2x128x8x128) (t := S1x2x128x8x128) q (start n) 2 0 rfl (clamped 2)
  have c3 (q) : Host.clampedStart S32x2x128x8x128 S1x2x128x8x128 q (start n) 3 = 0 :=
    Host.clampedStart_of_le (s := S32x2x128x8x128) (t := S1x2x128x8x128) q (start n) 3 0 rfl (clamped 3)
  have c4 (q) : Host.clampedStart S32x2x128x8x128 S1x2x128x8x128 q (start n) 4 = 0 :=
    Host.clampedStart_of_le (s := S32x2x128x8x128) (t := S1x2x128x8x128) q (start n) 4 0 rfl (clamped 4)
  by_cases tn : t.val = n
  · rw [if_pos tn, dif_pos]
    · have e5 : b91 n s (ix5 0 b i h e) = b90 n s (ix4 b i h e) := by pointwise [b91]
      rw [← e5]
      refine congrArg (b91 n s) (funext fun a => ?_)
      match a with
      | 0 => exact Fin.ext (by show t.val - Host.clampedStart S32x2x128x8x128 S1x2x128x8x128 updateFits_S32x2x128x8x128_S1x2x128x8x128.1 (start n) 0 = 0; rw [c0]; omega)
      | 1 => exact Fin.ext (by show b.val - Host.clampedStart S32x2x128x8x128 S1x2x128x8x128 updateFits_S32x2x128x8x128_S1x2x128x8x128.1 (start n) 1 = b.val; rw [c1]; omega)
      | 2 => exact Fin.ext (by show i.val - Host.clampedStart S32x2x128x8x128 S1x2x128x8x128 updateFits_S32x2x128x8x128_S1x2x128x8x128.1 (start n) 2 = i.val; rw [c2]; omega)
      | 3 => exact Fin.ext (by show h.val - Host.clampedStart S32x2x128x8x128 S1x2x128x8x128 updateFits_S32x2x128x8x128_S1x2x128x8x128.1 (start n) 3 = h.val; rw [c3]; omega)
      | 4 => exact Fin.ext (by show e.val - Host.clampedStart S32x2x128x8x128 S1x2x128x8x128 updateFits_S32x2x128x8x128_S1x2x128x8x128.1 (start n) 4 = e.val; rw [c4]; omega)
    · intro a
      match a with
      | 0 => show Host.clampedStart S32x2x128x8x128 S1x2x128x8x128 updateFits_S32x2x128x8x128_S1x2x128x8x128.1 (start n) 0 ≤ t.val ∧ t.val < Host.clampedStart S32x2x128x8x128 S1x2x128x8x128 updateFits_S32x2x128x8x128_S1x2x128x8x128.1 (start n) 0 + 1; rw [c0]; omega
      | 1 => show Host.clampedStart S32x2x128x8x128 S1x2x128x8x128 updateFits_S32x2x128x8x128_S1x2x128x8x128.1 (start n) 1 ≤ b.val ∧ b.val < Host.clampedStart S32x2x128x8x128 S1x2x128x8x128 updateFits_S32x2x128x8x128_S1x2x128x8x128.1 (start n) 1 + 2; rw [c1]; omega
      | 2 => show Host.clampedStart S32x2x128x8x128 S1x2x128x8x128 updateFits_S32x2x128x8x128_S1x2x128x8x128.1 (start n) 2 ≤ i.val ∧ i.val < Host.clampedStart S32x2x128x8x128 S1x2x128x8x128 updateFits_S32x2x128x8x128_S1x2x128x8x128.1 (start n) 2 + 128; rw [c2]; omega
      | 3 => show Host.clampedStart S32x2x128x8x128 S1x2x128x8x128 updateFits_S32x2x128x8x128_S1x2x128x8x128.1 (start n) 3 ≤ h.val ∧ h.val < Host.clampedStart S32x2x128x8x128 S1x2x128x8x128 updateFits_S32x2x128x8x128_S1x2x128x8x128.1 (start n) 3 + 8; rw [c3]; omega
      | 4 => show Host.clampedStart S32x2x128x8x128 S1x2x128x8x128 updateFits_S32x2x128x8x128_S1x2x128x8x128.1 (start n) 4 ≤ e.val ∧ e.val < Host.clampedStart S32x2x128x8x128 S1x2x128x8x128 updateFits_S32x2x128x8x128_S1x2x128x8x128.1 (start n) 4 + 128; rw [c4]; omega
  · rw [if_neg tn, dif_neg]
    intro hin
    have : Host.clampedStart S32x2x128x8x128 S1x2x128x8x128 updateFits_S32x2x128x8x128_S1x2x128x8x128.1 (start n) 0 ≤ t.val ∧ t.val < Host.clampedStart S32x2x128x8x128 S1x2x128x8x128 updateFits_S32x2x128x8x128_S1x2x128x8x128.1 (start n) 0 + 1 := hin 0
    rw [c0] at this
    omega

/-- The row of the sequence that is row `i` of chunk `n`. -/
def row (n : ℕ) (i : Fin 128) : Fin 4096 := ⟨(n * 128 + i.val) % 4096, Nat.mod_lt _ (by omega)⟩

variable (x : FVec Ideal S8192x14336 .f32)

/-- The rotated queries. -/
def qR (b : Fin 2) (r : Fin 4096) (h : Fin 8) (d : Fin 64) : EReal := A_main_v40 (F := Ideal) x (ix4 b r h d)
/-- The rotated and scaled keys. -/
def kR (b : Fin 2) (r : Fin 4096) (h : Fin 8) (d : Fin 64) : EReal := A_main_v77 (F := Ideal) x (ix4 b r h d)
/-- The values. -/
def vR (b : Fin 2) (r : Fin 4096) (h : Fin 8) (e : Fin 128) : EReal := A_main_v79 (F := Ideal) x (ix4 b r h e)

/-- The state before chunk `n`. -/
def stateR : ℕ → Fin 2 → Fin 8 → Fin 64 → Fin 128 → EReal
  | 0, _, _, _, _ => 0
  | n + 1, b, h, d, e => stateR n b h d e * Ideal.exp (Ideal.ofBits FTy.f32 1124073472#32 * lg h)
      + ∑ j : Fin 128, kR x b (row n j) h d * Ideal.exp ((Ideal.ofBits FTy.f32 1123942400#32 - fl j.val) * lg h) * vR x b (row n j) h e

/-- The output of chunk `n`. -/
def outR (n : ℕ) (b : Fin 2) (i : Fin 128) (h : Fin 8) (e : Fin 128) : EReal :=
  outAt (lg h) (fun i d => qR x b (row n i) h d) (fun j d => kR x b (row n j) h d) (fun j e => vR x b (row n j) h e)
    (fun d e => stateR x n b h d e) i e

/-- The chunks' queries at an element. -/
theorem v81_at (t : Fin 32) (b : Fin 2) (i : Fin 128) (h : Fin 8) (d : Fin 64) : A_main_v81 (F := Ideal) x (ix5 t b i h d) = qR x b (row t.val i) h d := by
  pointwise [A_main_v81, A_main_v80]
  exact congrArg _ (congrArg (ix4 b · h d) (Fin.ext (show t.val * 128 + i.val = (t.val * 128 + i.val) % 4096 by omega)))

/-- The chunks' keys at an element. -/
theorem v83_at (t : Fin 32) (b : Fin 2) (i : Fin 128) (h : Fin 8) (d : Fin 64) : A_main_v83 (F := Ideal) x (ix5 t b i h d) = kR x b (row t.val i) h d := by
  pointwise [A_main_v83, A_main_v82]
  exact congrArg _ (congrArg (ix4 b · h d) (Fin.ext (show t.val * 128 + i.val = (t.val * 128 + i.val) % 4096 by omega)))

/-- The chunks' values at an element. -/
theorem v85_at (t : Fin 32) (b : Fin 2) (i : Fin 128) (h : Fin 8) (e : Fin 128) : A_main_v85 (F := Ideal) x (ix5 t b i h e) = vR x b (row t.val i) h e := by
  pointwise [A_main_v85, A_main_v84]
  exact congrArg _ (congrArg (ix4 b · h e) (Fin.ext (show t.val * 128 + i.val = (t.val * 128 + i.val) % 4096 by omega)))

variable (m : (ℓ : Loc nD τ sig) → Buf (Elt Ideal) ℓ) (c : Dev nD)

open Cert.Proof.ReferenceSteps (states)

/-- What the loop carries unchanged. -/
theorem kept (n : ℕ) : (states m c n).main_v87_0 = A_main_v81 (F := Ideal) (m ((c.tc : Thread nD τ).loc main_arg0))
    ∧ (states m c n).main_v87_1 = A_main_v83 (F := Ideal) (m ((c.tc : Thread nD τ).loc main_arg0))
    ∧ (states m c n).main_v87_2 = A_main_v85 (F := Ideal) (m ((c.tc : Thread nD τ).loc main_arg0)) := by
  induction n with
  | zero => exact ⟨rfl, rfl, rfl⟩
  | succ n ih => exact ih

/-- The state before trip `n` is the recursion's. -/
theorem state_at (n : ℕ) (w : n ≤ 32) (b : Fin 2) (h : Fin 8) (d : Fin 64) (e : Fin 128) :
    (states m c n).main_v87_4 (ix4 b h d e) = stateR (m ((c.tc : Thread nD τ).loc main_arg0)) n b h d e := by
  induction n with
  | zero =>
    show K_main_v78 (F := Ideal) (ix4 b h d e) = 0
    pointwise [K_main_v78, K_main_cst_6]
  | succ n ih =>
    show b89 n (states m c n) (ix4 b h d e) = _
    rw [b89_at, ih (by omega)]
    refine congrArg₂ (· + ·) rfl (Finset.sum_congr rfl fun j _ => ?_)
    rw [b11_at _ n (by omega), b17_at _ n (by omega), (kept m c n).2.1, (kept m c n).2.2, v83_at, v85_at]

/-- The outputs before trip `n`, of the trips before it, are the recursion's. -/
theorem outs_at (n : ℕ) (w : n ≤ 32) (t : Fin 32) (tn : t.val < n) (b : Fin 2) (i : Fin 128) (h : Fin 8) (e : Fin 128) :
    (states m c n).main_v87_5 (ix5 t b i h e) = outR (m ((c.tc : Thread nD τ).loc main_arg0)) t.val b i h e := by
  induction n with
  | zero => omega
  | succ n ih =>
    show b96 n (states m c n) (ix5 t b i h e) = _
    rw [b96_at _ n (by omega)]
    by_cases q : t.val = n
    · rw [if_pos q, b90_at, q]
      unfold outR
      have e1 : (fun (i : Fin 128) (d : Fin 64) => b5 n (states m c n) (ix4 b i h d)) = fun i d => qR (m ((c.tc : Thread nD τ).loc main_arg0)) b (row n i) h d := by
        funext i d; rw [b5_at _ n (by omega), (kept m c n).1, v81_at]
      have e2 : (fun (i : Fin 128) (d : Fin 64) => b11 n (states m c n) (ix4 b i h d)) = fun i d => kR (m ((c.tc : Thread nD τ).loc main_arg0)) b (row n i) h d := by
        funext i d; rw [b11_at _ n (by omega), (kept m c n).2.1, v83_at]
      have e3 : (fun (i : Fin 128) (d : Fin 128) => b17 n (states m c n) (ix4 b i h d)) = fun i d => vR (m ((c.tc : Thread nD τ).loc main_arg0)) b (row n i) h d := by
        funext i d; rw [b17_at _ n (by omega), (kept m c n).2.2, v85_at]
      have e4 : (fun (d : Fin 64) (e : Fin 128) => (states m c n).main_v87_4 (ix4 b h d e)) = fun d e => stateR (m ((c.tc : Thread nD τ).loc main_arg0)) n b h d e := by
        funext d e; rw [state_at m c n (by omega)]
      rw [e1, e2, e3, e4]
    · rw [if_neg q]
      exact ih (by omega) (by omega)

/-- The cosines and the sines at a row and a frequency. -/
def cosR (r : Fin 4096) (z : Fin 32) : EReal := K_main_v20 (F := Ideal) (ix2 r z)
/-- The sines. -/
def sinR (r : Fin 4096) (z : Fin 32) : EReal := K_main_v22 (F := Ideal) (ix2 r z)

/-- The sine with the sign of a lane's half. -/
def ssinR (r : Fin 4096) (d : Fin 64) : EReal := if d.val < 32 then -sinR r ⟨d.val % 32, Nat.mod_lt _ (by omega)⟩ else sinR r ⟨d.val % 32, Nat.mod_lt _ (by omega)⟩

/-- The rotated queries, of the projection's rows. -/
theorem qR_eq (b : Fin 2) (r : Fin 4096) (h : Fin 8) (d : Fin 64) :
    qR x b r h d = rotAt (fun l => x (ix2 ⟨b.val * 4096 + r.val, by omega⟩ ⟨3072 + l.val, by omega⟩)) (cosR r ⟨d.val % 32, Nat.mod_lt _ (by omega)⟩) (ssinR r d) h d := by
  have X (r' : Fin 8192) (a b : Fin 14336) (e : a.val = b.val) : x (ix2 r' a) = x (ix2 r' b) := by rw [Fin.ext e]
  have C (a b : Fin 32) (e : a.val = b.val) : K_main_v20 (F := Ideal) (ix2 r a) = K_main_v20 (F := Ideal) (ix2 r b) := by rw [Fin.ext e]
  have N (a b : Fin 32) (e : a.val = b.val) : K_main_v22 (F := Ideal) (ix2 r a) = K_main_v22 (F := Ideal) (ix2 r b) := by rw [Fin.ext e]
  unfold qR rotAt ssinR cosR sinR
  pointwise [A_main_v40, A_main_v39, A_main_v32, A_main_v28, A_main_v31, A_main_v35, A_main_v38, A_main_v24, A_main_v25, A_main_v6, A_main_v3, A_main_v2, A_main_v1, K_main_v27, K_main_v30, K_main_v34, K_main_v37, K_main_v26, K_main_v29, K_main_v33, K_main_v36, K_main_v21, K_main_v23]
  by_cases w : d.val < 32
  · rw [dif_pos w, dif_pos w, if_pos w]
    refine (sub_eq_add_neg _ _).trans (congrArg₂ (· + ·) (congrArg₂ (· * ·) (X _ _ _ ?_) (C _ _ ?_)) ((mul_neg _ _).symm.trans (congrArg₂ (· * ·) (X _ _ _ ?_) (congrArg _ (N _ _ ?_)))))
    · show 3072 + (h.val * 64 + d.val) = 3072 + (64 * h.val + d.val); omega
    · show d.val = d.val % 32; omega
    · show 3072 + (h.val * 64 + (32 + d.val)) = 3072 + (64 * h.val + d.val + 32); omega
    · show d.val = d.val % 32; omega
  · rw [dif_neg w, dif_neg w, if_neg w]
    refine (add_comm _ _).trans (congrArg₂ (· + ·) (congrArg₂ (· * ·) (X _ _ _ ?_) (C _ _ ?_)) (congrArg₂ (· * ·) (X _ _ _ ?_) (N _ _ ?_)))
    · show 3072 + (h.val * 64 + (32 + (d.val - 32))) = 3072 + (64 * h.val + d.val); omega
    · show d.val - 32 = d.val % 32; omega
    · show 3072 + (h.val * 64 + (d.val - 32)) = 3072 + (64 * h.val + d.val - 32); omega
    · show d.val - 32 = d.val % 32; omega

/-- The rotated and scaled keys, of the projection's rows. -/
theorem kR_eq (b : Fin 2) (r : Fin 4096) (h : Fin 8) (d : Fin 64) :
    kR x b r h d = rotAt (fun l => x (ix2 ⟨b.val * 4096 + r.val, by omega⟩ ⟨3584 + l.val, by omega⟩)) (cosR r ⟨d.val % 32, Nat.mod_lt _ (by omega)⟩) (ssinR r d) h d
      * Ideal.ofBits FTy.f32 0x3E000000#32 := by
  have X (r' : Fin 8192) (a b : Fin 14336) (e : a.val = b.val) : x (ix2 r' a) = x (ix2 r' b) := by rw [Fin.ext e]
  have C (a b : Fin 32) (e : a.val = b.val) : K_main_v55 (F := Ideal) (ix2 r a) = K_main_v20 (F := Ideal) (ix2 r b) := by rw [Fin.ext e]; rfl
  have N (a b : Fin 32) (e : a.val = b.val) : K_main_v57 (F := Ideal) (ix2 r a) = K_main_v22 (F := Ideal) (ix2 r b) := by rw [Fin.ext e]; rfl
  unfold kR rotAt ssinR cosR sinR
  pointwise [A_main_v77, A_main_v75, A_main_v74, A_main_v67, A_main_v63, A_main_v66, A_main_v70, A_main_v73, A_main_v59, A_main_v60, A_main_v41, A_main_v4, A_main_v2, A_main_v1, K_main_v62, K_main_v65, K_main_v69, K_main_v72, K_main_v61, K_main_v64, K_main_v68, K_main_v71, K_main_v56, K_main_v58, K_main_v76, K_main_cst_5]
  refine congrArg₂ (· * ·) ?_ rfl
  by_cases w : d.val < 32
  · rw [dif_pos w, dif_pos w, if_pos w]
    refine (sub_eq_add_neg _ _).trans (congrArg₂ (· + ·) (congrArg₂ (· * ·) (X _ _ _ ?_) (C _ _ ?_)) ((mul_neg _ _).symm.trans (congrArg₂ (· * ·) (X _ _ _ ?_) (congrArg _ (N _ _ ?_)))))
    · show 3072 + (512 + (h.val * 64 + d.val)) = 3584 + (64 * h.val + d.val); omega
    · show d.val = d.val % 32; omega
    · show 3072 + (512 + (h.val * 64 + (32 + d.val))) = 3584 + (64 * h.val + d.val + 32); omega
    · show d.val = d.val % 32; omega
  · rw [dif_neg w, dif_neg w, if_neg w]
    refine (add_comm _ _).trans (congrArg₂ (· + ·) (congrArg₂ (· * ·) (X _ _ _ ?_) (C _ _ ?_)) (congrArg₂ (· * ·) (X _ _ _ ?_) (N _ _ ?_)))
    · show 3072 + (512 + (h.val * 64 + (32 + (d.val - 32)))) = 3584 + (64 * h.val + d.val); omega
    · show d.val - 32 = d.val % 32; omega
    · show 3072 + (512 + (h.val * 64 + (d.val - 32))) = 3584 + (64 * h.val + d.val - 32); omega
    · show d.val - 32 = d.val % 32; omega

/-- The values, of the projection's rows. -/
theorem vR_eq (b : Fin 2) (r : Fin 4096) (h : Fin 8) (e : Fin 128) :
    vR x b r h e = x (ix2 ⟨b.val * 4096 + r.val, by omega⟩ ⟨4096 + (128 * h.val + e.val), by omega⟩) := by
  unfold vR
  pointwise [A_main_v79, A_main_v5, A_main_v2, A_main_v1]
  exact congrArg x (congrArg (ix2 _) (Fin.ext (show 3072 + (1024 + (h.val * 128 + e.val)) = 4096 + (128 * h.val + e.val) by omega)))

end Cert.Proof.ReferenceAt

end
-- ==== Proof.RetentionBlocks.lean ====
module

public import proofs.«01_k».proof.Proof.RetentionRun
public import proofs.«01_k».proof.Proof.ReferenceAt

/-! What the retention kernel's windows stage: rows of the projection, the tables of cosines and sines, the scale. -/

@[expose] public section

set_option maxRecDepth 16384

noncomputable section

open Idealize.ShloMosaic Idealize.ShloMosaic.TcCoe Idealize.SL.Sem
open Idealize.ShloMosaic.Pipeline (Dat)

namespace Cert.Proof.RetentionBlocks

open Cert.KernelIdeal Cert.KernelIdeal.Gen
open Cert.Proof.ReferenceAt (cosR sinR ssinR)

variable (m : (ℓ : Loc nD τ sig) → Buf (Elt Ideal) ℓ)

/-- The block index of window 0 at every grid point. -/
theorem idx0 : ∀ t : Fin cfg0.N, win0_0.index t = ![t.val, 6] := (by decide +kernel : ∀ t : Fin grid0.N, _)
/-- The block index of window 1 at every grid point. -/
theorem idx1 : ∀ t : Fin cfg0.N, win0_1.index t = ![t.val, 7] := (by decide +kernel : ∀ t : Fin grid0.N, _)
/-- The block index of window 2 at every grid point. -/
theorem idx2 : ∀ t : Fin cfg0.N, win0_2.index t = ![t.val, 4] := (by decide +kernel : ∀ t : Fin grid0.N, _)
/-- The block index of window 3 at every grid point. -/
theorem idx3 : ∀ t : Fin cfg0.N, win0_3.index t = ![t.val, 5] := (by decide +kernel : ∀ t : Fin grid0.N, _)
/-- The block index of window 4 at every grid point. -/
theorem idx4 : ∀ t : Fin cfg0.N, win0_4.index t = ![t.val % 8, 0] := (by decide +kernel : ∀ t : Fin grid0.N, _)
/-- The block index of window 5 at every grid point. -/
theorem idx5 : ∀ t : Fin cfg0.N, win0_5.index t = ![t.val % 8, 0] := (by decide +kernel : ∀ t : Fin grid0.N, _)
/-- The block index of window 6 at every grid point. -/
theorem idx6 : ∀ t : Fin cfg0.N, win0_6.index t = ![0, 0] := (by decide +kernel : ∀ t : Fin grid0.N, _)

/-- A table over 512 lanes, of its two halves over 32 lanes. -/
abbrev TAB (a b : FVec Ideal S4096x32 .f32) : FVec Ideal S4096x512 .f32 :=
  shapeCast S4096x512 (broadcastInDim S1x4096x8x64 ![0, 1, 2, 3] bcast_S1x4096x1x64_S1x4096x8x64_0_1_2_3
    (shapeCast S1x4096x1x64 (concatenate S4096x64 1 [⟨S4096x32, a⟩, ⟨S4096x32, b⟩] concatenates_S4096x32_S4096x32_S4096x64_d1)
      shapeCasts_S4096x64_S1x4096x1x64)) shapeCasts_S1x4096x8x64_S4096x512

/-- A table at an element. -/
theorem tab_at (a b : FVec Ideal S4096x32 .f32) (r : Fin 4096) (h : Fin 8) (d : Fin 64) :
    TAB a b (ix2 r ⟨64 * h.val + d.val, by omega⟩)
      = if d.val < 32 then a (ix2 r ⟨d.val % 32, Nat.mod_lt _ (by omega)⟩) else b (ix2 r ⟨d.val % 32, Nat.mod_lt _ (by omega)⟩) := by
  pointwise [TAB]
  by_cases w : d.val < 32
  · rw [dif_pos w, if_pos w]
    exact congrArg a (congrArg (ix2 r) (Fin.ext (show d.val = d.val % 32 by omega)))
  · rw [dif_neg w, if_neg w]
    exact congrArg b (congrArg (ix2 r) (Fin.ext (show d.val - 32 = d.val % 32 by omega)))

/-- The table of cosines the kernel's host code makes. -/
theorem cos_eq (c : Dev nD) : V m c main_v19 = TAB (Cert.ReferenceIdeal.Step.K_main_v20 (F := Ideal)) (Cert.ReferenceIdeal.Step.K_main_v20 (F := Ideal)) := by
  unfold V
  after_results
  rfl

/-- The table of sines the kernel's host code makes. -/
theorem sin_eq (c : Dev nD) : V m c main_v24 = TAB (Host.negf (Cert.ReferenceIdeal.Step.K_main_v22 (F := Ideal))) (Cert.ReferenceIdeal.Step.K_main_v22 (F := Ideal)) := by
  unfold V
  after_results
  rfl

/-- The scale, as one row. -/
theorem ng_eq (c : Dev nD) : V m c main_v25 = shapeCast S1x128 (m ((c : Thread nD τ).loc main_arg1)) shapeCasts_S128_S1x128 := by
  unfold V
  after_results
  rfl

/-- What window 0 stages. -/
theorem rd0 (c : Dev nD) (t : Fin cfg0.N) (i : Fin 512) (j : Fin 512) (r : Fin 8192) (k : Fin 14336)
    (hr : r.val = t.val * 512 + i.val) (hk : k.val = 3072 + j.val) :
    iblk m c 0 t (ix2 i j) = m ((c : Thread nD τ).loc main_arg0) (ix2 r k) := by
  rw [← V_main_arg0 m c]
  blk_ext! [iblk, idx0 t]

/-- What window 1 stages. -/
theorem rd1 (c : Dev nD) (t : Fin cfg0.N) (i : Fin 512) (j : Fin 512) (r : Fin 8192) (k : Fin 14336)
    (hr : r.val = t.val * 512 + i.val) (hk : k.val = 3584 + j.val) :
    iblk m c 1 t (ix2 i j) = m ((c : Thread nD τ).loc main_arg0) (ix2 r k) := by
  rw [← V_main_arg0 m c]
  blk_ext! [iblk, idx1 t]

/-- What window 2 stages. -/
theorem rd2 (c : Dev nD) (t : Fin cfg0.N) (i : Fin 512) (j : Fin 1024) (r : Fin 8192) (k : Fin 14336)
    (hr : r.val = t.val * 512 + i.val) (hk : k.val = 4096 + j.val) :
    iblk m c 2 t (ix2 i j) = m ((c : Thread nD τ).loc main_arg0) (ix2 r k) := by
  rw [← V_main_arg0 m c]
  blk_ext! [iblk, idx2 t]

/-- What window 3 stages. -/
theorem rd3 (c : Dev nD) (t : Fin cfg0.N) (i : Fin 512) (j : Fin 1024) (r : Fin 8192) (k : Fin 14336)
    (hr : r.val = t.val * 512 + i.val) (hk : k.val = 5120 + j.val) :
    iblk m c 3 t (ix2 i j) = m ((c : Thread nD τ).loc main_arg0) (ix2 r k) := by
  rw [← V_main_arg0 m c]
  blk_ext! [iblk, idx3 t]

/-- What window 4 stages. -/
theorem rd4 (c : Dev nD) (t : Fin cfg0.N) (i : Fin 512) (h : Fin 8) (d : Fin 64) (r : Fin 4096)
    (hr : r.val = t.val % 8 * 512 + i.val) :
    iblk m c 4 t (ix2 i ⟨64 * h.val + d.val, by omega⟩) = cosR r ⟨d.val % 32, Nat.mod_lt _ (by omega)⟩ := by
  have e : iblk m c 4 t (ix2 i ⟨64 * h.val + d.val, by omega⟩) = V m c main_v19 (ix2 r ⟨64 * h.val + d.val, by omega⟩) := by
    blk_ext! [iblk, idx4 t]
  rw [e, cos_eq, tab_at]
  exact ite_self _

/-- What window 5 stages. -/
theorem rd5 (c : Dev nD) (t : Fin cfg0.N) (i : Fin 512) (h : Fin 8) (d : Fin 64) (r : Fin 4096)
    (hr : r.val = t.val % 8 * 512 + i.val) :
    iblk m c 5 t (ix2 i ⟨64 * h.val + d.val, by omega⟩) = ssinR r d := by
  have e : iblk m c 5 t (ix2 i ⟨64 * h.val + d.val, by omega⟩) = V m c main_v24 (ix2 r ⟨64 * h.val + d.val, by omega⟩) := by
    blk_ext! [iblk, idx5 t]
  rw [e, sin_eq, tab_at]
  rfl

/-- What window 6 stages. -/
theorem rd6 (c : Dev nD) (t : Fin cfg0.N) (j : Fin 128) :
    iblk m c 6 t (ix2 0 j) = m ((c : Thread nD τ).loc main_arg1) (ix1 j) := by
  have e : iblk m c 6 t (ix2 0 j) = V m c main_v25 (ix2 0 j) := by
    blk_ext! [iblk, idx6 t]
  rw [e, ng_eq]
  pointwise []

end Cert.Proof.RetentionBlocks

end
-- ==== Proof.RetentionConst.lean ====
module

public import proofs.«01_k».proof.Proof.ReferenceAt

/-! The decays' constants: what the kernel's named values are, and what the reference computes. -/

@[expose] public section

set_option maxRecDepth 16384

noncomputable section

open Idealize.ShloMosaic

namespace Cert.Proof.RetentionConst

open Cert.Proof.RetentionTile (lgc gcc fl)
open Cert.Proof.ReferenceAt (lg)

/-- The literal 2. -/
theorem two : Ideal.ofBits FTy.f32 1073741824#32 = ((2 : ℝ) : EReal) := by
  simp [Ideal.ofBits, Ideal.ieee, -EReal.coe_mul]; norm_num

/-- The literal -5. -/
theorem minus_five : Ideal.ofBits FTy.f32 3231711232#32 = ((-5 : ℝ) : EReal) := by
  simp [Ideal.ofBits, Ideal.ieee, -EReal.coe_mul]; norm_num

/-- The literal 128. -/
theorem chunk : Ideal.ofBits FTy.f32 1124073472#32 = ((128 : ℝ) : EReal) := by
  simp [Ideal.ofBits, Ideal.ieee, -EReal.coe_mul]; norm_num

/-- A head's number, as a real. -/
theorem fl_head : ∀ h : Fin 8, fl h.val = ((h.val : ℝ) : EReal) := by
  intro h
  have e : (BitVec.ofNat 32 h.val).toInt = (h.val : ℤ) := (by decide +kernel : ∀ h : Fin 8, (BitVec.ofNat 32 h.val).toInt = (h.val : ℤ)) h
  show (((BitVec.ofNat 32 h.val).toInt : ℝ) : EReal) = _
  rw [e]; norm_cast

/-- The reference's logarithm of a head's decay is the logarithm of a real. -/
theorem lg_real (h : Fin 8) : lg h = ((Real.log (1 - 2 ^ (-5 - (h.val : ℝ))) : ℝ) : EReal) := by
  have p : (2 : ℝ) ^ (-5 - (h.val : ℝ)) < 1 := by
    refine Real.rpow_lt_one_of_one_lt_of_neg (by norm_num) ?_
    have : (0 : ℝ) ≤ h.val := Nat.cast_nonneg _
    linarith
  unfold lg
  rw [two, minus_five, fl_head]
  show Ideal.log (1 + -(((2 : ℝ) ^ (-5 - (h.val : ℝ)) : ℝ) : EReal)) = _
  have e : (1 + -(((2 : ℝ) ^ (-5 - (h.val : ℝ)) : ℝ) : EReal)) = ((1 - 2 ^ (-5 - (h.val : ℝ)) : ℝ) : EReal) := by
    rw [EReal.coe_sub, sub_eq_add_neg]; rfl
  rw [e]
  show (if (1 - 2 ^ (-5 - (h.val : ℝ)) : ℝ) ≤ 0 then (⊥ : EReal) else _) = _
  rw [if_neg (by linarith)]

/-- One less the power of two of a head. -/
theorem base (n : ℕ) : (1 : ℝ) - 2 ^ (-5 - (n : ℝ)) = (2 ^ (5 + n) - 1) / 2 ^ (5 + n) := by
  have e : (-5 - (n : ℝ)) = -((5 + n : ℕ) : ℝ) := by push_cast; ring
  rw [e, Real.rpow_neg (by norm_num), Real.rpow_natCast]
  field_simp

/-- The kernel's named logarithms are the reference's. -/
theorem lgc_eq (h : Fin 8) : lgc h = lg h := by
  rw [lg_real, base]
  match h with
  | 0 => show ((Real.log (31 / 32) : ℝ) : EReal) = _; norm_num
  | 1 => show ((Real.log (63 / 64) : ℝ) : EReal) = _; norm_num
  | 2 => show ((Real.log (127 / 128) : ℝ) : EReal) = _; norm_num
  | 3 => show ((Real.log (255 / 256) : ℝ) : EReal) = _; norm_num
  | 4 => show ((Real.log (511 / 512) : ℝ) : EReal) = _; norm_num
  | 5 => show ((Real.log (1023 / 1024) : ℝ) : EReal) = _; norm_num
  | 6 => show ((Real.log (2047 / 2048) : ℝ) : EReal) = _; norm_num
  | 7 => show ((Real.log (4095 / 4096) : ℝ) : EReal) = _; norm_num

/-- The decay over a chunk is the base's power. -/
theorem power (h : Fin 8) : Ideal.exp (Ideal.ofBits FTy.f32 1124073472#32 * lg h) = (((((2 ^ (5 + h.val) - 1) / 2 ^ (5 + h.val) : ℝ) ^ 128 : ℝ)) : EReal) := by
  have p : (0 : ℝ) < (2 ^ (5 + h.val) - 1) / 2 ^ (5 + h.val) := by
    have : (1 : ℝ) < 2 ^ (5 + h.val) := one_lt_pow₀ (by norm_num) (by omega)
    exact div_pos (by linarith) (by linarith)
  rw [lg_real, base, chunk]
  have e : ((128 : ℝ) : EReal) * ((Real.log ((2 ^ (5 + h.val) - 1) / 2 ^ (5 + h.val)) : ℝ) : EReal)
      = ((128 * Real.log ((2 ^ (5 + h.val) - 1) / 2 ^ (5 + h.val)) : ℝ) : EReal) := (EReal.coe_mul _ _).symm
  rw [e]
  show ((Real.exp (128 * Real.log ((2 ^ (5 + h.val) - 1) / 2 ^ (5 + h.val))) : ℝ) : EReal) = _
  congr 1
  rw [show (128 : ℝ) = ((128 : ℕ) : ℝ) by norm_num, mul_comm, ← Real.rpow_def_of_pos p, Real.rpow_natCast]

/-- The kernel's named decays over a chunk are the reference's. -/
theorem gcc_eq (h : Fin 8) : gcc h = Ideal.exp (Ideal.ofBits FTy.f32 1124073472#32 * lg h) := by
  rw [power]
  match h with
  | 0 => exact congrArg Real.toEReal (show (_ : ℝ) = ((2 ^ (5 + 0) - 1) / 2 ^ (5 + 0) : ℝ) ^ 128 by norm_num)
  | 1 => exact congrArg Real.toEReal (show (_ : ℝ) = ((2 ^ (5 + 1) - 1) / 2 ^ (5 + 1) : ℝ) ^ 128 by norm_num)
  | 2 => exact congrArg Real.toEReal (show (_ : ℝ) = ((2 ^ (5 + 2) - 1) / 2 ^ (5 + 2) : ℝ) ^ 128 by norm_num)
  | 3 => exact congrArg Real.toEReal (show (_ : ℝ) = ((2 ^ (5 + 3) - 1) / 2 ^ (5 + 3) : ℝ) ^ 128 by norm_num)
  | 4 => exact congrArg Real.toEReal (show (_ : ℝ) = ((2 ^ (5 + 4) - 1) / 2 ^ (5 + 4) : ℝ) ^ 128 by norm_num)
  | 5 => exact congrArg Real.toEReal (show (_ : ℝ) = ((2 ^ (5 + 5) - 1) / 2 ^ (5 + 5) : ℝ) ^ 128 by norm_num)
  | 6 => exact congrArg Real.toEReal (show (_ : ℝ) = ((2 ^ (5 + 6) - 1) / 2 ^ (5 + 6) : ℝ) ^ 128 by norm_num)
  | 7 => exact congrArg Real.toEReal (show (_ : ℝ) = ((2 ^ (5 + 7) - 1) / 2 ^ (5 + 7) : ℝ) ^ 128 by norm_num)

end Cert.Proof.RetentionConst

end
-- ==== Proof.ReferenceResult.lean ====
module

public import proofs.«01_k».proof.Proof.ReferenceSteps
public import proofs.«01_k».proof.Proof.RetentionAt

/-! The retention reference's results, element by element, of the loop's last state. -/

@[expose] public section

set_option maxRecDepth 16384

noncomputable section

open Idealize.ShloMosaic Idealize.ShloMosaic.TcCoe Idealize.SL.Sem

namespace Cert.Proof.ReferenceResult

open Cert.ReferenceIdeal Cert.ReferenceIdeal.Gen Cert.ReferenceIdeal.Step
open Cert.Proof.RetentionTile (epi)

set_option maxHeartbeats 1000000

/-- The first result at an element. -/
theorem result_at (s : State Ideal) (x : FVec Ideal S8192x14336 .f32) (g : FVec Ideal S128 .f32) (r : Fin 8192) (l : Fin 1024) :
    R_main_v109 s x g (ix2 r l) = epi (fun e => s.main_v87_5 (ix5 ⟨r.val % 4096 / 128, by omega⟩ ⟨r.val / 4096, by omega⟩ ⟨r.val % 4096 % 128, by omega⟩
      ⟨l.val / 128, by omega⟩ e)) (fun e => g (ix1 e)) (x (ix2 r ⟨5120 + l.val, by omega⟩)) ⟨l.val % 128, by omega⟩ := by
  pointwise [R_main_v109]
  rfl

/-- The second result at an element. -/
theorem result2_at (s : State Ideal) (b : Fin 2) (p : Fin 4) (r : Fin 128) (l : Fin 128) :
    R_main_v110 s (ix4 b p r l) = s.main_v87_4 (ix4 b ⟨p.val * 2 + r.val / 64, by omega⟩ ⟨r.val % 64, by omega⟩ l) := by
  pointwise [R_main_v110]

end Cert.Proof.ReferenceResult

end
-- ==== Proof.RetentionValue.lean ====
module

public import proofs.«01_k».proof.Proof.RetentionBlocks
public import proofs.«01_k».proof.Proof.RetentionConst
public import proofs.«01_k».proof.Proof.ReferenceResult

/-! The retention kernel's two results: after every grid point the scratch buffer holds the reference's state, and what
    the points store is the reference's result. -/

@[expose] public section

set_option maxRecDepth 16384

noncomputable section

open Idealize.ShloMosaic Idealize.ShloMosaic.TcCoe Idealize.SL.Sem
open Idealize.ShloMosaic.Pipeline (Dat)

namespace Cert.Proof.RetentionValue

open Cert.KernelIdeal Cert.KernelIdeal.Gen
open Cert.Proof.RetentionTile Cert.Proof.RetentionRun Cert.Proof.RetentionBlocks Cert.Proof.RetentionConst
open Cert.Proof.ReferenceAt (lg cosR sinR ssinR qR kR vR qR_eq kR_eq vR_eq stateR outR row)

variable (m : (ℓ : Loc nD τ sig) → Buf (Elt Ideal) ℓ)

/-- The projection's rows the kernel and the reference read. -/
abbrev X (c : Dev nD) : FVec Ideal S8192x14336 .f32 := m ((c : Thread nD τ).loc main_arg0)

/-- The batch of a grid point. -/
def bat (t : Fin cfg0.N) : Fin 2 := ⟨t.val / 8, by have : t.val < 16 := t.isLt; omega⟩

/-- The row of the array that is row `i` of chunk `n` of a point. -/
def arow (t : Fin cfg0.N) (n : Fin 4) (i : Fin 128) : Fin 8192 :=
  ⟨t.val * 512 + (128 * n.val + i.val), by have : t.val < 16 := t.isLt; omega⟩

/-- A chunk's row of a block, read in the block. -/
theorem rowsA_at (B : FVec Ideal S512x512 .f32) (n : Fin 4) (i : Fin 128) (l : Fin 512) :
    rowsA B n (ix2 i l) = B (ix2 ⟨128 * n.val + i.val, by omega⟩ l) := by
  refine congrArg B (funext fun a => ?_)
  match a with
  | 0 => exact Fin.ext (show 128 * n.val + 1 * i.val = 128 * n.val + i.val by omega)
  | 1 => exact Fin.ext (show 0 + 1 * l.val = l.val by omega)

/-- A chunk's row of a block, read in the block. -/
theorem rowsB_at (B : FVec Ideal S512x1024 .f32) (n : Fin 4) (i : Fin 128) (l : Fin 1024) :
    rowsB B n (ix2 i l) = B (ix2 ⟨128 * n.val + i.val, by omega⟩ l) := by
  refine congrArg B (funext fun a => ?_)
  match a with
  | 0 => exact Fin.ext (show 128 * n.val + 1 * i.val = 128 * n.val + i.val by omega)
  | 1 => exact Fin.ext (show 0 + 1 * l.val = l.val by omega)

/-- A chunk's row and a head's lane of a block, read in the block. -/
theorem rowsG_at (B : FVec Ideal S512x1024 .f32) (n : Fin 4) (h : Fin 8) (i l : Fin 128) :
    rowsG B n h (ix2 i l) = B (ix2 ⟨128 * n.val + i.val, by omega⟩ ⟨128 * h.val + l.val, by omega⟩) := by
  refine congrArg B (funext fun a => ?_)
  match a with
  | 0 => exact Fin.ext (show 128 * n.val + 1 * i.val = 128 * n.val + i.val by omega)
  | 1 => exact Fin.ext (show 128 * h.val + 1 * l.val = 128 * h.val + l.val by omega)

/-- A pair's state, read in the whole state. -/
theorem pairS_at (B : FVec Ideal S4x128x128 .f32) (p : Fin 4) (r e : Fin 128) : pairS B p (ix3 0 r e) = B (ix3 p r e) := by
  refine congrArg B (funext fun a => ?_)
  match a with
  | 0 => exact Fin.ext (show p.val + 1 * 0 = p.val by omega)
  | 1 => exact Fin.ext (show 0 + 1 * r.val = r.val by omega)
  | 2 => exact Fin.ext (show 0 + 1 * e.val = e.val by omega)

/-- The rotated keys of a chunk are the reference's. -/
theorem key (c : Dev nD) (t : Fin cfg0.N) (n : Fin 4) (i : Fin 128) (h : Fin 8) (d : Fin 64) :
    rotK (rowsA (iblk m c 4 t) n) (rowsA (iblk m c 5 t) n) (rowsA (iblk m c 1 t) n) (ix2 i ⟨64 * h.val + d.val, by omega⟩)
      = kR (X m c) (bat t) (row (4 * (t.val % 8) + n.val) i) h d := by
  have ht : t.val < 16 := t.isLt
  rw [rotK_at, kR_eq, rowsA_at, rowsA_at,
    rd4 m c t ⟨128 * n.val + i.val, by omega⟩ h d (row (4 * (t.val % 8) + n.val) i) (by show ((4 * (t.val % 8) + n.val) * 128 + i.val) % 4096 = t.val % 8 * 512 + (128 * n.val + i.val); omega),
    rd5 m c t ⟨128 * n.val + i.val, by omega⟩ h d (row (4 * (t.val % 8) + n.val) i) (by show ((4 * (t.val % 8) + n.val) * 128 + i.val) % 4096 = t.val % 8 * 512 + (128 * n.val + i.val); omega)]
  refine congrArg (fun f => rotAt f _ _ h d * Ideal.ofBits FTy.f32 0x3E000000#32) (funext fun l => ?_)
  rw [rowsA_at]
  exact rd1 m c t _ _ _ _ (by show t.val / 8 * 4096 + ((4 * (t.val % 8) + n.val) * 128 + i.val) % 4096 = t.val * 512 + (128 * n.val + i.val); omega) rfl

/-- The rotated queries of a chunk are the reference's. -/
theorem query (c : Dev nD) (t : Fin cfg0.N) (n : Fin 4) (i : Fin 128) (h : Fin 8) (d : Fin 64) :
    rotQ (rowsA (iblk m c 4 t) n) (rowsA (iblk m c 5 t) n) (rowsA (iblk m c 0 t) n) (ix2 i ⟨64 * h.val + d.val, by omega⟩)
      = qR (X m c) (bat t) (row (4 * (t.val % 8) + n.val) i) h d := by
  have ht : t.val < 16 := t.isLt
  rw [rotQ_at, qR_eq, rowsA_at, rowsA_at,
    rd4 m c t ⟨128 * n.val + i.val, by omega⟩ h d (row (4 * (t.val % 8) + n.val) i) (by show ((4 * (t.val % 8) + n.val) * 128 + i.val) % 4096 = t.val % 8 * 512 + (128 * n.val + i.val); omega),
    rd5 m c t ⟨128 * n.val + i.val, by omega⟩ h d (row (4 * (t.val % 8) + n.val) i) (by show ((4 * (t.val % 8) + n.val) * 128 + i.val) % 4096 = t.val % 8 * 512 + (128 * n.val + i.val); omega)]
  refine congrArg (fun f => rotAt f _ _ h d) (funext fun l => ?_)
  rw [rowsA_at]
  exact rd0 m c t _ _ _ _ (by show t.val / 8 * 4096 + ((4 * (t.val % 8) + n.val) * 128 + i.val) % 4096 = t.val * 512 + (128 * n.val + i.val); omega) rfl

/-- The values of a chunk are the reference's. -/
theorem value (c : Dev nD) (t : Fin cfg0.N) (n : Fin 4) (i : Fin 128) (h : Fin 8) (e : Fin 128) :
    rowsB (iblk m c 2 t) n (ix2 i ⟨128 * h.val + e.val, by omega⟩) = vR (X m c) (bat t) (row (4 * (t.val % 8) + n.val) i) h e := by
  have ht : t.val < 16 := t.isLt
  rw [rowsB_at, vR_eq]
  exact rd2 m c t _ _ _ _ (by show t.val / 8 * 4096 + ((4 * (t.val % 8) + n.val) * 128 + i.val) % 4096 = t.val * 512 + (128 * n.val + i.val); omega) rfl

/-- What it means that a state is the reference's before chunk `n`: every head's rows of its pair are the head's. -/
def Holds (x : FVec Ideal S8192x14336 .f32) (b : Fin 2) (n : ℕ) (S : FVec Ideal S4x128x128 .f32) : Prop :=
  ∀ (h : Fin 8) (d : Fin 64) (e : Fin 128), S (ix3 ⟨h.val / 2, by omega⟩ ⟨64 * (h.val % 2) + d.val, by omega⟩ e) = stateR x n b h d e

/-- A pair's state before a chunk of a point, of a state that is the reference's before the point. -/
theorem stN_at (c : Dev nD) (t : Fin cfg0.N) (S : FVec Ideal S4x128x128 .f32) (hS : Holds (X m c) (bat t) (4 * (t.val % 8)) S) (n : ℕ) (hn : n ≤ 4)
    (h : Fin 8) (d : Fin 64) (e : Fin 128) :
    stN (iblk m c 4 t) (iblk m c 5 t) (iblk m c 1 t) (iblk m c 2 t) S ⟨h.val / 2, by omega⟩ n (ix3 0 ⟨64 * (h.val % 2) + d.val, by omega⟩ e)
      = stateR (X m c) (4 * (t.val % 8) + n) (bat t) h d e := by
  induction n with
  | zero => exact (pairS_at S _ _ _).trans (hS h d e)
  | succ n ih =>
    refine (congrFun (stN_succ _ _ _ _ S ⟨h.val / 2, by omega⟩ ⟨n, by omega⟩) _).trans ?_
    rw [upd_at, gcc_eq, lgc_eq]
    refine congrArg₂ (· + ·) (congrArg (· * _) (ih (by omega))) (Finset.sum_congr rfl fun j _ => ?_)
    exact congrArg₂ (· * ·) (congrArg (· * _) (key m c t ⟨n, by omega⟩ j h d)) (value m c t ⟨n, by omega⟩ j h e)

/-- The state the first point of a batch starts from is the reference's. -/
theorem start_holds (x : FVec Ideal S8192x14336 .f32) (b : Fin 2) : Holds x b 0 (k0_pay4 (F := Ideal)) := by
  intro h d e
  show _ = (0 : EReal)
  pointwise [k0_pay4]

/-- A whole state after a point, of its pairs. -/
theorem after_holds (c : Dev nD) (t : Fin cfg0.N) (S : FVec Ideal S4x128x128 .f32) (hS : Holds (X m c) (bat t) (4 * (t.val % 8)) S)
    (R : FVec Ideal S4x128x128 .f32) (hR : ∀ y : S4x128x128.Idx, R y = stN (iblk m c 4 t) (iblk m c 5 t) (iblk m c 1 t) (iblk m c 2 t) S (y 0) 4 (ix3 0 (y 1) (y 2))) :
    Holds (X m c) (bat t) (4 * (t.val % 8) + 4) R := by
  intro h d e
  exact (hR _).trans (stN_at m c t S hS 4 (le_refl _) h d e)

/-- The scratch buffer holds the reference's state after every point but a batch's last. -/
theorem scratch (c : Dev nD) (n : ℕ) : ∀ (hn : n < cfg0.N) (w : n % 8 < 7),
    Holds (X m c) (bat ⟨n, hn⟩) (4 * (n % 8) + 4) (outsAt0 m c n hn).2.2 := by
  induction n with
  | zero =>
    intro hn w
    exact after_holds m c ⟨0, hn⟩ _ (start_holds _ _) _ fun y => sA m c ⟨0, hn⟩ rfl (by show ¬ 0 % 8 = 7; omega) y
  | succ n ih =>
    intro hn w
    by_cases h0 : (n + 1) % 8 = 0
    · refine after_holds m c ⟨n + 1, hn⟩ _ ?_ _ fun y => sA m c ⟨n + 1, hn⟩ h0 (by show ¬ (n + 1) % 8 = 7; omega) y
      show Holds _ _ (4 * ((n + 1) % 8)) _
      rw [h0]
      exact start_holds _ _
    · refine after_holds m c ⟨n + 1, hn⟩ _ ?_ _ fun y => sB m c ⟨n + 1, hn⟩ h0 (by show ¬ (n + 1) % 8 = 7; omega) y
      have key := ih (Nat.lt_of_succ_lt hn) (by omega)
      have e1 : bat ⟨n + 1, hn⟩ = bat ⟨n, Nat.lt_of_succ_lt hn⟩ := Fin.ext (show (n + 1) / 8 = n / 8 by omega)
      have e2 : 4 * ((n + 1) % 8) = 4 * (n % 8) + 4 := by omega
      show Holds _ _ (4 * ((n + 1) % 8)) _
      rw [e1, e2]
      exact key

/-- The scratch buffer before a point that is not a batch's first holds the reference's state. -/
theorem before (c : Dev nD) (t : Fin cfg0.N) (q0 : ¬ t.val % 8 = 0) :
    Holds (X m c) (bat t) (4 * (t.val % 8)) (outsAt0 m c (t.val - 1) (by have := t.isLt; omega)).2.2 := by
  have key := scratch m c (t.val - 1) (by have := t.isLt; omega) (by omega)
  have e1 : bat t = bat ⟨t.val - 1, by have := t.isLt; omega⟩ := Fin.ext (show t.val / 8 = (t.val - 1) / 8 by omega)
  have e2 : 4 * (t.val % 8) = 4 * ((t.val - 1) % 8) + 4 := by omega
  rw [e1, e2]
  exact key

/-- A head's output tile at an element, in the arithmetic of the head. -/
theorem tile_at (c s q k : FVec Ideal S128x512 .f32) (v : FVec Ideal S128x1024 .f32) (g : FVec Ideal S128x128 .f32) (ng : FVec Ideal S1x128 .f32)
    (S : FVec Ideal S1x128x128 .f32) (h : Fin 8) (i e : Fin 128) :
    tile c s q k v g ng S h (ix2 i e) = epi (fun z => outAt (lgc h) (fun i d => rotQ c s q (ix2 i ⟨64 * h.val + d.val, by omega⟩))
      (fun j d => rotK c s k (ix2 j ⟨64 * h.val + d.val, by omega⟩)) (fun j e => v (ix2 j ⟨128 * h.val + e.val, by omega⟩))
      (fun d e => S (ix3 0 ⟨64 * (h.val % 2) + d.val, by omega⟩ e)) i z) (fun z => ng (ix2 0 z)) (g (ix2 i e)) e := by
  unfold tile
  rcases Nat.mod_two_eq_zero_or_one h.val with w | w
  · rw [if_pos w]
    have eh : ev ⟨h.val / 2, by omega⟩ = h := Fin.ext (show 2 * (h.val / 2) = h.val by omega)
    unfold tileE
    rw [gated_at]
    refine congrArg (fun f => epi f _ _ e) (funext fun z => ?_)
    have en : 2 * (h.val / 2) = h.val := by omega
    rw [out_even]
    simp only [eh, en]
  · rw [if_neg (by omega)]
    have eh : od ⟨h.val / 2, by omega⟩ = h := Fin.ext (show 2 * (h.val / 2) + 1 = h.val by omega)
    unfold tileO
    rw [gated_at]
    refine congrArg (fun f => epi f _ _ e) (funext fun z => ?_)
    have en : 2 * (h.val / 2) + 1 = h.val := by omega
    rw [out_odd]
    simp only [eh, en]

/-- A head's output tile at an element is the reference's. -/
theorem yT_at (c : Dev nD) (t : Fin cfg0.N) (S : FVec Ideal S4x128x128 .f32) (hS : Holds (X m c) (bat t) (4 * (t.val % 8)) S) (n : Fin 4) (h : Fin 8) (i e : Fin 128) :
    yT (iblk m c 0 t) (iblk m c 1 t) (iblk m c 2 t) (iblk m c 3 t) (iblk m c 4 t) (iblk m c 5 t) (iblk m c 6 t) S n h (ix2 i e)
      = epi (fun z => outR (X m c) (4 * (t.val % 8) + n.val) (bat t) i h z) (fun z => m ((c : Thread nD τ).loc main_arg1) (ix1 z))
          (X m c (ix2 (arow t n i) ⟨5120 + (128 * h.val + e.val), by omega⟩)) e := by
  have g1 : rowsG (iblk m c 3 t) n h (ix2 i e) = X m c (ix2 (arow t n i) ⟨5120 + (128 * h.val + e.val), by omega⟩) := by
    rw [rowsG_at]
    exact rd3 m c t _ _ _ _ rfl rfl
  have g2 : (fun z => (iblk m c 6 t : FVec Ideal S1x128 .f32) (ix2 0 z)) = fun z => m ((c : Thread nD τ).loc main_arg1) (ix1 z) := funext fun z => rd6 m c t z
  have o (z : Fin 128) : outAt (lgc h) (fun i d => rotQ (rowsA (iblk m c 4 t) n) (rowsA (iblk m c 5 t) n) (rowsA (iblk m c 0 t) n) (ix2 i ⟨64 * h.val + d.val, by omega⟩))
      (fun j d => rotK (rowsA (iblk m c 4 t) n) (rowsA (iblk m c 5 t) n) (rowsA (iblk m c 1 t) n) (ix2 j ⟨64 * h.val + d.val, by omega⟩))
      (fun j e => rowsB (iblk m c 2 t) n (ix2 j ⟨128 * h.val + e.val, by omega⟩))
      (fun d e => stN (iblk m c 4 t) (iblk m c 5 t) (iblk m c 1 t) (iblk m c 2 t) S ⟨h.val / 2, by omega⟩ n.val (ix3 0 ⟨64 * (h.val % 2) + d.val, by omega⟩ e)) i z
      = outR (X m c) (4 * (t.val % 8) + n.val) (bat t) i h z := by
    unfold outR
    rw [lgc_eq]
    have e1 := funext fun i => funext fun d => query m c t n i h d
    have e2 := funext fun i => funext fun d => key m c t n i h d
    have e3 := funext fun i => funext fun d => value m c t n i h d
    have e4 := funext fun d => funext fun e => stN_at m c t S hS n.val (by omega) h d e
    rw [e1, e2, e3, e4]
  unfold yT
  rw [tile_at, g1, g2, funext o]

/-- The output block of every point at an element. -/
theorem block_at (c : Dev nD) (t : Fin cfg0.N) (y : S512x1024.Idx) :
    (outsAt0 m c t.val t.isLt).1 y
      = epi (fun z => outR (X m c) (4 * (t.val % 8) + (y 0).val / 128) (bat t) ⟨(y 0).val % 128, Nat.mod_lt _ (by omega)⟩
            ⟨(y 1).val / 128, Nat.div_lt_of_lt_mul (y 1).isLt⟩ z) (fun z => m ((c : Thread nD τ).loc main_arg1) (ix1 z))
          (X m c (ix2 (arow t ⟨(y 0).val / 128, Nat.div_lt_of_lt_mul (y 0).isLt⟩ ⟨(y 0).val % 128, Nat.mod_lt _ (by omega)⟩)
            ⟨5120 + (128 * ((y 1).val / 128) + (y 1).val % 128), by have : (y 1).val < 1024 := (y 1).isLt; omega⟩))
          ⟨(y 1).val % 128, Nat.mod_lt _ (by omega)⟩ := by
  by_cases q0 : t.val % 8 = 0
  · refine (yA m c t q0 (by omega) y).trans (yT_at m c t _ ?_ _ _ _ _)
    rw [q0]
    exact start_holds _ _
  · by_cases q1 : t.val % 8 = 7
    · exact (yC m c t q0 q1 y).trans (yT_at m c t _ (before m c t q0) _ _ _ _)
    · exact (yB m c t q0 q1 y).trans (yT_at m c t _ (before m c t q0) _ _ _ _)

/-- The state block a batch's last point stores, at an element. -/
theorem state_block_at (c : Dev nD) (t : Fin cfg0.N) (q1 : t.val % 8 = 7) (p : Fin 4) (r e : Fin 128) :
    (outsAt0 m c t.val t.isLt).2.1 (ix4 0 p r e)
      = stateR (X m c) 32 (bat t) ⟨p.val * 2 + r.val / 64, by omega⟩ ⟨r.val % 64, Nat.mod_lt _ (by omega)⟩ e := by
  have q0 : ¬ t.val % 8 = 0 := by omega
  have key := stN_at m c t _ (before m c t q0) 4 (le_refl _) ⟨p.val * 2 + r.val / 64, by omega⟩ ⟨r.val % 64, Nat.mod_lt _ (by omega)⟩ e
  have e0 : 4 * (t.val % 8) + 4 = 32 := by omega
  rw [e0] at key
  refine (sC m c t q0 q1 _).trans (Eq.trans ?_ key)
  have e1 : (⟨(p.val * 2 + r.val / 64) / 2, by omega⟩ : Fin 4) = p := Fin.ext (show (p.val * 2 + r.val / 64) / 2 = p.val by omega)
  have e2 : (⟨64 * ((p.val * 2 + r.val / 64) % 2) + r.val % 64, by omega⟩ : Fin 128) = r := Fin.ext (show 64 * ((p.val * 2 + r.val / 64) % 2) + r.val % 64 = r.val by omega)
  simp only [e1, e2]
  rfl

end Cert.Proof.RetentionValue

end
-- ==== Proof.RetentionClaim.lean ====
module

public import proofs.«01_k».proof.Defs
public import proofs.«01_k».proof.Proof.RetentionValue

/-! The retention's value claim: the kernel's two results and the reference's are the same arrays. -/

@[expose] public section

set_option maxRecDepth 16384

noncomputable section

namespace Cert.Proof.RetentionClaim

open Idealize.ShloMosaic Idealize.ShloMosaic.TcCoe Idealize.SL.Sem
open Idealize.ShloMosaic.Pipeline (Dat)
open Cert.KernelIdeal Cert.KernelIdeal.Gen
open Cert.Proof.RetentionValue
open Cert.Proof.ReferenceSteps (states)

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The block index of the output's window at every grid point. -/
theorem idx7 : ∀ t : Fin cfg0.N, win0_7.index t = ![t.val, 0] := (by decide +kernel : ∀ t : Fin grid0.N, _)
/-- The block index of the state's window at every grid point. -/
theorem idx8 : ∀ t : Fin cfg0.N, win0_8.index t = ![t.val / 8, 0, 0, 0] := (by decide +kernel : ∀ t : Fin grid0.N, _)

/-- The kernel's first result is the reference's. -/
theorem final7 (c : Dev nD)
    (e0 : m' ((c.tc : Thread Cert.ReferenceIdeal.nD Cert.ReferenceIdeal.τ).loc Cert.ReferenceIdeal.main_arg0) = m ((c : Thread nD τ).loc main_arg0))
    (e1 : m' ((c.tc : Thread Cert.ReferenceIdeal.nD Cert.ReferenceIdeal.τ).loc Cert.ReferenceIdeal.main_arg1) = m ((c : Thread nD τ).loc main_arg1)) :
    (dats m 0 c).arrAt 7 cfg0.N = Cert.ReferenceIdeal.Step.R_main_v109 (states m' c 32) (m ((c : Thread nD τ).loc main_arg0)) (m ((c : Thread nD τ).loc main_arg1)) := by
  refine (dats m 0 c).arrAt_eq_of_covers 7 _ (by decide +kernel) fun t _ y => ?_
  blk_simp
  rw [after0_7]
  have ht : t.val < 16 := t.isLt
  have h0 : (y 0).val < 512 := (y 0).isLt
  have h1 : (y 1).val < 1024 := (y 1).isLt
  have e : ((cfg0.win 7).blk t).view.emb y = ix2 (⟨t.val * 512 + (y 0).val, by omega⟩ : Fin 8192) (⟨(y 1).val, h1⟩ : Fin 1024) := by
    blk_ext! [idx7 t]
  rw [e, Cert.Proof.ReferenceResult.result_at]
  refine (block_at m c t y).trans ?_
  have a1 : (t.val * 512 + (y 0).val) % 4096 / 128 = 4 * (t.val % 8) + (y 0).val / 128 := by omega
  have a2 : (⟨(t.val * 512 + (y 0).val) / 4096, by omega⟩ : Fin 2) = bat t := Fin.ext (show (t.val * 512 + (y 0).val) / 4096 = t.val / 8 by omega)
  have a3 : (⟨(t.val * 512 + (y 0).val) % 4096 % 128, by omega⟩ : Fin 128) = ⟨(y 0).val % 128, Nat.mod_lt _ (by omega)⟩ :=
    Fin.ext (show (t.val * 512 + (y 0).val) % 4096 % 128 = (y 0).val % 128 by omega)
  have a4 : (ix2 (arow t ⟨(y 0).val / 128, Nat.div_lt_of_lt_mul h0⟩ ⟨(y 0).val % 128, Nat.mod_lt _ (by omega)⟩)
      (⟨5120 + (128 * ((y 1).val / 128) + (y 1).val % 128), by omega⟩ : Fin 14336))
      = ix2 (⟨t.val * 512 + (y 0).val, by omega⟩ : Fin 8192) (⟨5120 + (y 1).val, by omega⟩ : Fin 14336) := by
    refine congrArg₂ ix2 (Fin.ext ?_) (Fin.ext ?_)
    · show t.val * 512 + (128 * ((y 0).val / 128) + (y 0).val % 128) = t.val * 512 + (y 0).val; omega
    · show 5120 + (128 * ((y 1).val / 128) + (y 1).val % 128) = 5120 + (y 1).val; omega
  have o (z : Fin 128) : Cert.Proof.ReferenceAt.outR (X m c) (4 * (t.val % 8) + (y 0).val / 128) (bat t) ⟨(y 0).val % 128, Nat.mod_lt _ (by omega)⟩
      ⟨(y 1).val / 128, Nat.div_lt_of_lt_mul h1⟩ z
      = (states m' c 32).main_v87_5 (ix5 ⟨(t.val * 512 + (y 0).val) % 4096 / 128, by omega⟩ ⟨(t.val * 512 + (y 0).val) / 4096, by omega⟩
          ⟨(t.val * 512 + (y 0).val) % 4096 % 128, by omega⟩ ⟨(y 1).val / 128, by omega⟩ z) := by
    rw [Cert.Proof.ReferenceAt.outs_at m' c 32 (le_refl _) _ (by show (t.val * 512 + (y 0).val) % 4096 / 128 < 32; omega), e0]
    show _ = Cert.Proof.ReferenceAt.outR (X m c) ((t.val * 512 + (y 0).val) % 4096 / 128) _ _ _ z
    rw [a1, a2, a3]
  refine (congrArg (fun f => Cert.Proof.RetentionTile.epi f _ _ _) (funext o)).trans ?_
  exact congrArg (fun g => Cert.Proof.RetentionTile.epi _ _ g _) (congrArg (X m c) a4)

/-- The kernel's second result is the reference's. -/
theorem final8 (c : Dev nD)
    (e0 : m' ((c.tc : Thread Cert.ReferenceIdeal.nD Cert.ReferenceIdeal.τ).loc Cert.ReferenceIdeal.main_arg0) = m ((c : Thread nD τ).loc main_arg0)) :
    (dats m 0 c).arrAt 8 cfg0.N = Cert.ReferenceIdeal.Step.R_main_v110 (states m' c 32) := by
  refine (dats m 0 c).arrAt_eq_of_covers 8 _ (by decide +kernel) fun t hf y => ?_
  have q1 : t.val % 8 = 7 := (flush0_8 t).mp hf
  blk_simp
  rw [after0_8]
  have ht : t.val < 16 := t.isLt
  have h0 : (y 0).val < 1 := (y 0).isLt
  have h1 : (y 1).val < 4 := (y 1).isLt
  have h2 : (y 2).val < 128 := (y 2).isLt
  have h3 : (y 3).val < 128 := (y 3).isLt
  have e : ((cfg0.win 8).blk t).view.emb y
      = ix4 (⟨t.val / 8, by omega⟩ : Fin 2) (⟨(y 1).val, h1⟩ : Fin 4) (⟨(y 2).val, h2⟩ : Fin 128) (⟨(y 3).val, h3⟩ : Fin 128) := by
    blk_ext! [idx8 t]
  rw [e, Cert.Proof.ReferenceResult.result2_at, Cert.Proof.ReferenceAt.state_at m' c 32 (le_refl _), e0]
  have ey : y = ix4 (0 : Fin 1) (⟨(y 1).val, h1⟩ : Fin 4) (⟨(y 2).val, h2⟩ : Fin 128) (⟨(y 3).val, h3⟩ : Fin 128) := by
    funext a
    match a with
    | 0 => exact Fin.ext (show (y 0).val = 0 by omega)
    | 1 => rfl
    | 2 => rfl
    | 3 => rfl
  refine (congrArg (outsAt0 m c t.val t.isLt).2.1 ey).trans ?_
  exact state_block_at m c t q1 ⟨(y 1).val, h1⟩ ⟨(y 2).val, h2⟩ ⟨(y 3).val, h3⟩

/-- The retention kernel computes its reference's two results. -/
theorem algebraic : Cert.algebraic_KernelIdeal_ReferenceIdeal := by
  intro m ρ m' ρ' _ hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩)
    (Cert.Proof.ReferenceSteps.run (F := Ideal) m' ρ')
  · rw [final7 m m' c (hagree c).1 (hagree c).2, ← (hagree c).1, ← (hagree c).2]
  · exact (final8 m m' c (hagree c).1).symm

end Cert.Proof.RetentionClaim

end
-- ==== Proof.UpBody.lean ====
module

public import proofs.«01_k».proof.Proof.Gen.KernelUpIdeal.Skeleton
public import proofs.«01_k».proof.Proof.Gen.KernelUpIdeal.Frame
public import Idealize.ShloMosaic.Lib.Pipeline.ValueKit
public import Idealize.ShloMosaic.Lib.Pipeline.ReadBack
public import Idealize.ShloMosaic.Lib.VecWindow

@[expose] public section

set_option maxRecDepth 16384

noncomputable section

namespace UpBody

open Cert.KernelUpIdeal Cert.KernelUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The machine's resources at the program's signature. -/
abbrev Mach (F : FTy → Type) [FloatOps F] : Type := MT nD τ sig Unit (Elt F) ℕ (UR sig nD τ) ℕ

/-- The body's first test: the point's column tile is the first. -/
abbrev condJ (i : grid0.Coords) : Prop := (Scalar.cmpi .ne (Scalar.extui (Scalar.cmpi .eq (BitVec.ofNat 32 (i 1).val) 0#32)) 0#32) = 1#1

/-- The body's second test: the point's row tile is a sequence's first. -/
abbrev condF (i : grid0.Coords) : Prop :=
  (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1

/-- The first test, at a point's position. -/
theorem hcondJ : ∀ t : Fin cfg0.N, condJ (grid0.coords t) ↔ t.val % 11 = 0 :=
  (by decide +kernel : ∀ t : Fin grid0.N, condJ (grid0.coords t) ↔ t.val % 11 = 0)

/-- The second test, at a point's position. -/
theorem hcondF : ∀ t : Fin cfg0.N, condF (grid0.coords t) ↔ t.val / 11 % 4 = 0 :=
  (by decide +kernel : ∀ t : Fin grid0.N, condF (grid0.coords t) ↔ t.val / 11 % 4 = 0)

/-- The third test is the second's negation. -/
theorem hcond3 : ∀ t : Fin cfg0.N, k0_cond3 (grid0.coords t) = 1#1 ↔ ¬ t.val / 11 % 4 = 0 :=
  (by decide +kernel : ∀ t : Fin grid0.N, k0_cond3 (grid0.coords t) = 1#1 ↔ ¬ t.val / 11 % 4 = 0)

/-- A load of stored pieces through a rectangle reads their composition there. -/
theorem readCov_ld {sig : RefSig} {κ : Kind} {sp : Space} {s : Shape} {e : EltTy} (v : View sig κ sp s e) (L : List (View.Piece (Elt F) s e)) (r : Rect s) :
    v.readCov L r.toLoadRect = View.ld (View.canon L) r :=
  View.readCov_eq_canon' v L _

/-- The column tile's slice of the carried rows at a point. -/
abbrev slot (i : grid0.Coords) : Rect S11x8x512 := Rect.unit (s := S11x8x512) (k0_off2 i) S1x8x512.size (k0_off2_inb i)

/-- The slice of the carried rows starts at the point's column tile. -/
theorem off2_0 (i : grid0.Coords) : k0_off2 i 0 = (i 1).val :=
  (by decide : ∀ j : Fin 11, (BitVec.ofNat 32 j.val).toNat = j.val) (i 1)

/-- The gate buffer at a first tile: six zero rows, the state's two rows, the tile's product. -/
def gFirst (x6 : Vec F S1x2x512 .f32) (d : Vec F S1024x512 .f32) : Vec F S1032x512 .f32 :=
  View.canon [⟨Rect.unit (s := S1032x512) ![8, 0] S1024x512.size inb_S1032x512_S1024x512_8_0, d⟩,
    ⟨Rect.unit (s := S1032x512) ![6, 0] S2x512.size inb_S1032x512_S2x512_6_0, k0_pay3 x6⟩,
    ⟨Rect.unit (s := S1032x512) ![0, 0] S6x512.size inb_S1032x512_S6x512_0_0, k0_pay2 (F := F)⟩]

/-- The gate buffer at a later tile: the eight carried rows, the tile's product. -/
def gNext (s : Vec F S1x8x512 .f32) (d : Vec F S1024x512 .f32) : Vec F S1032x512 .f32 :=
  View.canon [⟨Rect.unit (s := S1032x512) ![8, 0] S1024x512.size inb_S1032x512_S1024x512_8_0, d⟩,
    ⟨Rect.unit (s := S1032x512) ![0, 0] S8x512.size inb_S1032x512_S8x512_0_0, k0_pay4 s⟩]

/-- The activation block a point writes, from the normalised rows, the gate buffer and the point's blocks. -/
def yOf (h : Vec F S1024x2048 .bf16) (G : Vec F S1032x512 .f32) (x3 : Vec F S2048x512 .bf16) (x4 : Vec F S3x512 .f32) (x5 : Vec F S1x512 .f32) : Vec F S1024x512 .bf16 :=
  k0_pay8 h (k0_pay6 (F := F)) (View.ld G (Rect.unit (s := S1032x512) ![6, 0] S1024x512.size inb_S1032x512_S1024x512_6_0))
    (k0_pay7 (View.ld x4 (Rect.unit (s := S3x512) ![0, 0] S1x512.size inb_S3x512_S1x512_0_0)))
    (View.ld G (Rect.unit (s := S1032x512) ![7, 0] S1024x512.size inb_S1032x512_S1024x512_7_0))
    (View.ld x4 (Rect.unit (s := S3x512) ![1, 0] S1x512.size inb_S3x512_S1x512_1_0))
    (View.ld G (Rect.unit (s := S1032x512) ![8, 0] S1024x512.size inb_S1032x512_S1024x512_8_0))
    (View.ld x4 (Rect.unit (s := S3x512) ![2, 0] S1x512.size inb_S3x512_S1x512_2_0)) x3 x5

/-- The eight rows a point carries to the next row tile. -/
def sOf (G : Vec F S1032x512 .f32) : Vec F S1x8x512 .f32 :=
  k0_pay9 (View.ld G (Rect.unit (s := S1032x512) ![1024, 0] S8x512.size inb_S1032x512_S8x512_1024_0))

/-- The two tail rows a point writes. -/
def tOf (G : Vec F S1032x512 .f32) : Vec F S1x2x512 .f32 :=
  k0_pay10 (View.ld G (Rect.unit (s := S1032x512) ![1030, 0] S2x512.size inb_S1032x512_S2x512_1030_0))

set_option maxHeartbeats 2000000 in
/-- The body at a point, from the blocks it is handed: it leaves the activation block, the tail rows, the normalised rows and the carried rows. -/
theorem body_run (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S1x512 .f32) (harg7 : arg7.IsWhole) (arg8 : Memref sig .tc .vmem S1x2x512 .f32) (harg8 : arg8.IsWhole) (arg9 : Memref sig .tc .vmem S1024x512 .bf16) (harg9 : arg9.IsWhole) (arg10 : Memref sig .tc .vmem S1x2x512 .f32) (harg10 : arg10.IsWhole) (arg11 : Memref sig .tc .vmem S1024x2048 .bf16) (harg11 : arg11.IsWhole) (arg12 : Memref sig .tc .vmem S1032x512 .f32) (harg12 : arg12.IsWhole) (arg13 : Memref sig .tc .vmem S11x8x512 .f32) (harg13 : arg13.IsWhole) (hc : k0_cond3 i = 1#1 ↔ ¬ condF i)
    (x0 : Vec F S1024x2048 .f32) (x1 : Vec F S1x2048 .f32) (x2 : Vec F S2048x512 .bf16) (x3 : Vec F S2048x512 .bf16) (x4 : Vec F S3x512 .f32) (x5 : Vec F S1x512 .f32) (x6 : Vec F S1x2x512 .f32) (hs : Vec F S1024x2048 .bf16) (C : Vec F S11x8x512 .f32)
    (h : Vec F S1024x2048 .bf16) (hh1 : condJ i → h = k0_pay1 x0 x1) (hh2 : ¬ condJ i → h = hs)
    (G : Vec F S1032x512 .f32) (hG1 : condF i → G = gFirst x6 (k0_pay5 h x2)) (hG2 : ¬ condF i → G = gNext (View.ld C (slot i)) (k0_pay5 h x2))
    (E : Set ℕ) (K : PUnit → sProp (Mach F)) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare hs ∗ (∃ d, owns (c : Thread nD τ) arg12 fullShare d) ∗ owns (c : Thread nD τ) arg13 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
              ∗ owns (c : Thread nD τ) arg9 fullShare (yOf h G x3 x4 x5) ∗ owns (c : Thread nD τ) arg10 fullShare (tOf G) ∗ owns (c : Thread nD τ) arg11 fullShare h ∗ (∃ d, owns (c : Thread nD τ) arg12 fullShare d)
              ∗ (∃ C' : Vec F S11x8x512 .f32, ⌜View.ld C' (slot i) = sOf G ∧ ∀ i' : grid0.Coords, (i' 1).val ≠ (i 1).val → View.ld C' (slot i') = View.ld C (slot i')⌝ ∗ owns (c : Thread nD τ) arg13 fullShare C')) -∗ K ⟨⟩))
          ⊢ wp frame (wpE (defs₀ (F := F)) Variants.none c none) E (cc0_ffn_up_prompt i arg2 harg2 arg3 harg3 arg4 harg4 arg5 harg5 arg6 harg6 arg7 harg7 arg8 harg8 arg9 harg9 arg10 harg10 arg11 harg11 arg12 harg12 arg13 harg13) K := by
    simp only [cc0_ffn_up_prompt_eq_skeleton]; unfold cc0_ffn_up_prompt_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%da, %fa, -, HA⟩, ⟨%fb, %hfb, HB⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg13.eq_unread hfb; obtain rfl := harg11.eq_unread hf9
    have hn : (condF i ∧ ¬ k0_cond3 i = 1#1 ∧ G = gFirst x6 (k0_pay5 h x2))
        ∨ (¬ condF i ∧ k0_cond3 i = 1#1 ∧ G = gNext (View.ld C (slot i)) (k0_pay5 h x2)) := by
      by_cases hf : condF i
      · exact .inl ⟨hf, fun e => hc.mp e hf, hG1 hf⟩
      · exact .inr ⟨hf, hc.mpr hf, hG2 hf⟩
    have hm : (condJ i ∧ h = k0_pay1 x0 x1) ∨ (¬ condJ i ∧ h = hs) := by
      by_cases hj : condJ i
      · exact .inl ⟨hj, hh1 hj⟩
      · exact .inr ⟨hj, hh2 hj⟩
    clear hh1 hh2 hG1 hG2
    have e0 : arg2.view.readAt (Elt F) (Rect.unit (s := S1024x2048) ![0, 0] S1024x2048.size inb_S1024x2048_S1024x2048_0_0).toLoadRect (harg2.unread x0) = x0 :=
      (View.readAt_full _ _ _).trans (harg2.read_unread _)
    have e1 : arg3.view.readAt (Elt F) (Rect.unit (s := S1x2048) ![0, 0] S1x2048.size inb_S1x2048_S1x2048_0_0).toLoadRect (harg3.unread x1) = x1 :=
      (View.readAt_full _ _ _).trans (harg3.read_unread _)
    have e2 : arg4.view.readAt (Elt F) (Rect.unit (s := S2048x512) ![0, 0] S2048x512.size inb_S2048x512_S2048x512_0_0).toLoadRect (harg4.unread x2) = x2 :=
      (View.readAt_full _ _ _).trans (harg4.read_unread _)
    have e3 : arg5.view.readAt (Elt F) (Rect.unit (s := S2048x512) ![0, 0] S2048x512.size inb_S2048x512_S2048x512_0_0).toLoadRect (harg5.unread x3) = x3 :=
      (View.readAt_full _ _ _).trans (harg5.read_unread _)
    have e5 : arg7.view.readAt (Elt F) (Rect.unit (s := S1x512) ![0, 0] S1x512.size inb_S1x512_S1x512_0_0).toLoadRect (harg7.unread x5) = x5 :=
      (View.readAt_full _ _ _).trans (harg7.read_unread _)
    have e6 : arg8.view.readAt (Elt F) (Rect.unit (s := S1x2x512) ![0, 0, 0] S1x2x512.size inb_S1x2x512_S1x2x512_0_0_0).toLoadRect (harg8.unread x6) = x6 :=
      (View.readAt_full _ _ _).trans (harg8.read_unread _)
    have eH : arg11.view.readAt (Elt F) (Rect.unit (s := S1024x2048) ![0, 0] S1024x2048.size inb_S1024x2048_S1024x2048_0_0).toLoadRect (harg11.unread hs) = hs :=
      (View.readAt_full _ _ _).trans (harg11.read_unread _)
    have eC : ∀ hb, arg13.view.readAt (Elt F) (Rect.unit (s := S11x8x512) (k0_off1 i) S1x8x512.size hb).toLoadRect (harg13.unread C) = View.ld C (slot i) :=
      fun hb => congrArg (fun A => View.ld A (slot i)) (harg13.read_unread C)
    have eh : ∀ w : Vec F S1024x2048 .bf16, arg11.view.readCov [(⟨Rect.unit (s := S1024x2048) ![0, 0] S1024x2048.size inb_S1024x2048_S1024x2048_0_0, w⟩ : View.Piece (Elt F) S1024x2048 .bf16)]
        (Rect.unit (s := S1024x2048) ![0, 0] S1024x2048.size inb_S1024x2048_S1024x2048_0_0).toLoadRect = w :=
      fun w => View.readCov_full _ _ _ _ []
    rcases hm with ⟨hj, rfl⟩ | ⟨hj, rfl⟩ <;> rcases hn with ⟨hf, hn, rfl⟩ | ⟨hf, hn, rfl⟩
    all_goals
      sl_exec (disch := first | sl_exact hj | sl_exact hf | sl_exact hn)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr
        swap; · iexact H7
        ipureintro
        refine (View.read_writes_full _ _ _ _ _).trans ?_
        sl_unfold_run_names
        try rw [e0]
        try rw [e1]
        try rw [eh]
        try rw [e2]
        try rw [e3]
        try rw [e5]
        try rw [e6]
        try rw [eH]
        try rw [eC]
        simp only [readCov_ld, View.readAt_eq_ld, harg6.read_unread, harg13.read_unread, yOf, tOf, sOf, gFirst, gNext]
      isplitl [H8]
      · iexists _; isplitr
        swap; · iexact H8
        ipureintro
        refine (View.read_writes_full _ _ _ _ _).trans ?_
        sl_unfold_run_names
        try rw [e0]
        try rw [e1]
        try rw [eh]
        try rw [e2]
        try rw [e3]
        try rw [e5]
        try rw [e6]
        try rw [eH]
        try rw [eC]
        simp only [readCov_ld, View.readAt_eq_ld, harg6.read_unread, harg13.read_unread, yOf, tOf, sOf, gFirst, gNext]
      isplitl [H9]
      · iexists _; isplitr
        swap; · iexact H9
        ipureintro
        first
        | with_reducible exact harg11.read_unread _
        | refine (View.read_writes_full _ _ _ _ _).trans ?_
          sl_unfold_run_names
          (try rw [e0]); (try rw [e1]); (with_reducible rfl)
      isplitl [HA]
      · iexists _; iexists _; isplitr
        swap; · iexact HA
        ipureintro; rfl
      iexists _; isplitr
      swap
      · iexists _; isplitr
        swap; · iexact HB
        ipureintro; rfl
      ipureintro
      refine ⟨?_, ?_⟩
      · funext z
        refine (View.read_writes_cons_emb _ _ _ _ _ z).trans ?_
        sl_unfold_run_names
        try rw [e0]
        try rw [e1]
        try rw [eh]
        try rw [e2]
        try rw [e3]
        try rw [e5]
        try rw [e6]
        try rw [eH]
        try rw [eC]
        simp only [readCov_ld, View.readAt_eq_ld, harg6.read_unread, harg13.read_unread, yOf, tOf, sOf, gFirst, gNext]
      · intro i' hi'
        funext z
        have hz : (z 0).val < 1 := (z 0).isLt
        refine (View.read_writes_cons_miss_of_axis _ _ _ _ _ 0 (i 1).val 1 (off2_0 i) rfl rfl ?_).trans ?_
        · have e : (((slot i').idx z) 0).val = (i' 1).val := by
            have := off2_0 i'
            rw [Rect.idx_unit_val, this]; omega
          rw [e]; omega
        · exact congrFun (harg13.read_unread C) _

end UpBody

end
-- ==== Proof.UpRun.lean ====
module

public import proofs.«01_k».proof.Proof.UpBody
public import Idealize.ShloMosaic.Lib.Claim

/-! The feed-forward block's first product, run: what each point finds in its three scratch buffers and leaves in its two
    result blocks, and the launch from it. -/

@[expose] public section

set_option maxRecDepth 16384

noncomputable section

namespace UpRun

open Cert.KernelUpIdeal Cert.KernelUpIdeal.Gen UpBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The scratch of the normalised rows. -/
abbrev scH : Memref sig .tc .vmem S1024x2048 .bf16 := Memref.whole cc0_scratch0
/-- The scratch of the gate buffer. -/
abbrev scG : Memref sig .tc .vmem S1032x512 .f32 := Memref.whole cc0_scratch1
/-- The scratch of the carried rows. -/
abbrev scC : Memref sig .tc .vmem S11x8x512 .f32 := Memref.whole cc0_scratch2

/-- The points are 88. -/
theorem lt88 (t : Fin cfg0.N) : t.val < 88 := lt_of_lt_of_eq t.isLt (show cfg0.N = 88 from N_0)

/-- The first point of a point's row tile. -/
def rowPt (t : Fin cfg0.N) : Fin cfg0.N := ⟨t.val - t.val % 11, lt_of_le_of_lt (Nat.sub_le _ _) t.isLt⟩

/-- The point a given number of positions earlier. -/
def backPt (t : Fin cfg0.N) (k : ℕ) : Fin cfg0.N := ⟨t.val - k, lt_of_le_of_lt (Nat.sub_le _ _) t.isLt⟩

/-- The normalised rows a point works on. -/
def Hat (c : Dev nD) (t : Fin cfg0.N) : Vec F S1024x2048 .bf16 := k0_pay1 (iblk m c 0 (rowPt t)) (iblk m c 1 (rowPt t))

/-- The gate product of a point. -/
def Dat0 (c : Dev nD) (t : Fin cfg0.N) : Vec F S1024x512 .f32 := k0_pay5 (Hat m c t) (iblk m c 2 t)

/-- The eight rows a point carries to the next row tile: its product's last eight. -/
def Sat (c : Dev nD) (t : Fin cfg0.N) : Vec F S1x8x512 .f32 :=
  k0_pay9 (View.ld (Dat0 m c t) (Rect.unit (s := S1024x512) ![1016, 0] S8x512.size (by decide)))

/-- The gate buffer at a point. -/
def Gat (c : Dev nD) (t : Fin cfg0.N) : Vec F S1032x512 .f32 :=
  if t.val / 11 % 4 = 0 then gFirst (iblk m c 6 t) (Dat0 m c t) else gNext (Sat m c (backPt t 11)) (Dat0 m c t)

/-- The activation block a point writes. -/
def Yat (c : Dev nD) (t : Fin cfg0.N) : Vec F S1024x512 .bf16 :=
  yOf (Hat m c t) (Gat m c t) (iblk m c 3 t) (iblk m c 4 t) (iblk m c 5 t)

/-- The tail rows a point writes. -/
def Tat (c : Dev nD) (t : Fin cfg0.N) : Vec F S1x2x512 .f32 := tOf (Gat m c t)

/-- Rows from 1024 of a first tile's gate buffer are the product's rows from 1016. -/
theorem ld_gFirst (x : Vec F S1x2x512 .f32) (d : Vec F S1024x512 .f32) :
    View.ld (gFirst x d) (Rect.unit (s := S1032x512) ![1024, 0] S8x512.size inb_S1032x512_S8x512_1024_0)
      = View.ld d (Rect.unit (s := S1024x512) ![1016, 0] S8x512.size (by decide)) := by
  funext z
  have e : (Rect.unit (s := S1032x512) ![1024, 0] S8x512.size inb_S1032x512_S8x512_1024_0).idx z
      = (Rect.unit (s := S1032x512) ![8, 0] S1024x512.size inb_S1032x512_S1024x512_8_0).emb
        ((Rect.unit (s := S1024x512) ![1016, 0] S8x512.size (by decide)).idx z) := by
    funext a; apply Fin.ext
    fin_cases a
    · show 1024 + 1 * (z 0).val = 8 + 1 * (1016 + 1 * (z 0).val); omega
    · show 0 + 1 * (z 1).val = 0 + 1 * (0 + 1 * (z 1).val); omega
  show gFirst x d ((Rect.unit (s := S1032x512) ![1024, 0] S8x512.size inb_S1032x512_S8x512_1024_0).idx z) = _
  rw [e]
  exact View.canon_cons_emb _ _ _ _

/-- Rows from 1024 of a later tile's gate buffer are the product's rows from 1016. -/
theorem ld_gNext (s : Vec F S1x8x512 .f32) (d : Vec F S1024x512 .f32) :
    View.ld (gNext s d) (Rect.unit (s := S1032x512) ![1024, 0] S8x512.size inb_S1032x512_S8x512_1024_0)
      = View.ld d (Rect.unit (s := S1024x512) ![1016, 0] S8x512.size (by decide)) := by
  funext z
  have e : (Rect.unit (s := S1032x512) ![1024, 0] S8x512.size inb_S1032x512_S8x512_1024_0).idx z
      = (Rect.unit (s := S1032x512) ![8, 0] S1024x512.size inb_S1032x512_S1024x512_8_0).emb
        ((Rect.unit (s := S1024x512) ![1016, 0] S8x512.size (by decide)).idx z) := by
    funext a; apply Fin.ext
    fin_cases a
    · show 1024 + 1 * (z 0).val = 8 + 1 * (1016 + 1 * (z 0).val); omega
    · show 0 + 1 * (z 1).val = 0 + 1 * (0 + 1 * (z 1).val); omega
  show gNext s d ((Rect.unit (s := S1032x512) ![1024, 0] S8x512.size inb_S1032x512_S8x512_1024_0).idx z) = _
  rw [e]
  exact View.canon_cons_emb _ _ _ _

/-- What a point carries on is its product's last rows, whatever stands above them. -/
theorem sOf_Gat (c : Dev nD) (t : Fin cfg0.N) : sOf (Gat m c t) = Sat m c t := by
  unfold sOf Sat Gat
  split
  · rw [ld_gFirst]
  · rw [ld_gNext]

/-- A point's column tile is its position within the row tile. -/
theorem hcol : ∀ t : Fin cfg0.N, ((grid0.coords t) 1).val = t.val % 11 :=
  (by decide +kernel : ∀ t : Fin grid0.N, ((grid0.coords t) 1).val = t.val % 11)

/-- Points of one column tile read one slice of the carried rows. -/
theorem ld_slot (C : Vec F S11x8x512 .f32) (i i' : grid0.Coords) (h : (i 1).val = (i' 1).val) :
    View.ld C (slot i) = View.ld C (slot i') := by
  have e : k0_off2 i = k0_off2 i' := by
    unfold k0_off2; rw [h]
  funext z
  refine congrArg C (funext fun a => Fin.ext ?_)
  show k0_off2 i a + 1 * (z a).val = k0_off2 i' a + 1 * (z a).val
  rw [e]

/-- Within a row tile the normalised rows stay. -/
theorem Hat_back (c : Dev nD) (t : Fin cfg0.N) (h : ¬ t.val % 11 = 0) : Hat m c (backPt t 1) = Hat m c t := by
  have e : rowPt (backPt t 1) = rowPt t := Fin.ext (by
    show t.val - 1 - (t.val - 1) % 11 = t.val - t.val % 11; omega)
  unfold Hat; rw [e]

/-- Before position `n` the carried rows hold what each of the last eleven points carried. -/
def Carried (c : Dev nD) (n : ℕ) (C : Vec F S11x8x512 .f32) : Prop :=
  ∀ t : Fin cfg0.N, t.val < n → n ≤ t.val + 11 → View.ld C (slot (grid0.coords t)) = Sat m c t

/-- What holds of the scratch buffers and the generator before position `n`. -/
def PhiS (c : Dev nD) : (n : ℕ) → n ≤ cfg0.N → sProp (Mach F)
  | 0, _ => Pipeline.ΦA spec0 c
  | n + 1, hn => iprop((owns (c : Thread nD τ) scH fullShare (Hat m c ⟨n, hn⟩) ∗ (∃ d, owns (c : Thread nD τ) scG fullShare d)
      ∗ (∃ C, ⌜Carried m c (n + 1) C⌝ ∗ owns (c : Thread nD τ) scC fullShare C)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop((owns (c : Thread nD τ) scH fullShare (Hat m c ⟨n, hn⟩) ∗ (∃ d, owns (c : Thread nD τ) scG fullShare d)
      ∗ (∃ C, ⌜Carried m c (n + 1) C⌝ ∗ owns (c : Thread nD τ) scC fullShare C)) ∗ (∃ r, prngReg c r)) := rfl

/-- Before a point that is not the first. -/
theorem PhiS_pos (c : Dev nD) (n : ℕ) (h : n ≤ cfg0.N) (hz : n ≠ 0) :
    PhiS m c n h = iprop((owns (c : Thread nD τ) scH fullShare (Hat m c ⟨n - 1, by omega⟩) ∗ (∃ d, owns (c : Thread nD τ) scG fullShare d)
      ∗ (∃ C, ⌜Carried m c n C⌝ ∗ owns (c : Thread nD τ) scC fullShare C)) ∗ (∃ r, prngReg c r)) := by
  cases n with
  | zero => exact absurd rfl hz
  | succ n => rfl

/-- What the region is handed, buffer by buffer. -/
theorem PhiA0_eq (c : Dev nD) :
    (Pipeline.ΦA spec0 c : sProp (Mach F))
      = iprop(((∃ d, owns (c : Thread nD τ) scH fullShare d) ∗ (∃ d, owns (c : Thread nD τ) scG fullShare d)
        ∗ (∃ d, owns (c : Thread nD τ) scC fullShare d)) ∗ (∃ r, prngReg c r)) := by
  unfold Pipeline.ΦA; rw [scopedRest0_eq]; simp only [scH, scG, scC, owns_whole]; try rfl

/-- The proof data: inputs keep their blocks, the results hold `Yat` and `Tat`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Yat m c t
    | ⟨8, _⟩ => Tat m c t
  Φ t := PhiS m c t.val (Nat.le_of_lt_succ t.isLt)
  q w := Pipeline.shareOf spec0 w
  owed _ := 0

/-- The arrays are the region's. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = Yat m c t := by dsimp only [dats]
/-- What the body leaves in window 8. -/
theorem after0_8 (c : Dev nD) (t : Fin cfg0.N) : (dats m 0 c).after 8 t = Tat m c t := by dsimp only [dats]
/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d
/-- What the body finds in window 6. -/
theorem before0_6 (c : Dev nD) (t : Fin cfg0.N) (d) : (dats m 0 c).before 6 t d = iblk m c 6 t :=
  before0_6_of m (dats m 0 c) (A_eq m c 6) (after0_6 m c) t d
/-- Window 0's staging buffer at a point. -/
abbrev ms0 (t : Fin cfg0.N) : Memref sig .tc .vmem S1024x2048 .f32 := win0_0.stage (cfg0.slots t 0)
/-- Window 1's staging buffer at a point. -/
abbrev ms1 (t : Fin cfg0.N) : Memref sig .tc .vmem S1x2048 .f32 := win0_1.stage (cfg0.slots t 1)
/-- Window 2's staging buffer at a point. -/
abbrev ms2 (t : Fin cfg0.N) : Memref sig .tc .vmem S2048x512 .bf16 := win0_2.stage (cfg0.slots t 2)
/-- Window 3's staging buffer at a point. -/
abbrev ms3 (t : Fin cfg0.N) : Memref sig .tc .vmem S2048x512 .bf16 := win0_3.stage (cfg0.slots t 3)
/-- Window 4's staging buffer at a point. -/
abbrev ms4 (t : Fin cfg0.N) : Memref sig .tc .vmem S3x512 .f32 := win0_4.stage (cfg0.slots t 4)
/-- Window 5's staging buffer at a point. -/
abbrev ms5 (t : Fin cfg0.N) : Memref sig .tc .vmem S1x512 .f32 := win0_5.stage (cfg0.slots t 5)
/-- Window 6's staging buffer at a point. -/
abbrev ms6 (t : Fin cfg0.N) : Memref sig .tc .vmem S1x2x512 .f32 := win0_6.stage (cfg0.slots t 6)
/-- Window 7's staging buffer at a point. -/
abbrev ms7 (t : Fin cfg0.N) : Memref sig .tc .vmem S1024x512 .bf16 := win0_7.stage (cfg0.slots t 7)
/-- Window 8's staging buffer at a point. -/
abbrev ms8 (t : Fin cfg0.N) : Memref sig .tc .vmem S1x2x512 .f32 := win0_8.stage (cfg0.slots t 8)
/-- What the body is called with at a point. -/
def bodyPre (c : Dev nD) (t : Fin cfg0.N) : sProp (Mach F) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it leaves. -/
def bodyPost (c : Dev nD) (t : Fin cfg0.N) : sProp (Mach F) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 2000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 88 := lt88 t
  have hc : k0_cond3 (grid0.coords t) = 1#1 ↔ ¬ condF (grid0.coords t) := (hcond3 t).trans (not_congr (hcondF t)).symm
  have hrow : t.val % 11 = 0 → rowPt t = t := fun h => Fin.ext (by show t.val - t.val % 11 = t.val; omega)
  have hH : condJ (grid0.coords t) → Hat m c t = k0_pay1 (iblk m c 0 t) (iblk m c 1 t) := fun hj => by
    unfold Hat; rw [hrow ((hcondJ t).mp hj)]
  have hG1 : condF (grid0.coords t) → Gat m c t = gFirst (iblk m c 6 t) (k0_pay5 (Hat m c t) (iblk m c 2 t)) := fun hf =>
    if_pos ((hcondF t).mp hf)
  have hG2 : ¬ condF (grid0.coords t) → Gat m c t = gNext (Sat m c (backPt t 11)) (k0_pay5 (Hat m c t) (iblk m c 2 t)) := fun hf =>
    if_neg fun e => hf ((hcondF t).mpr e)
  have hkeep : ∀ C C' : Vec F S11x8x512 .f32, Carried m c t.val C →
      (View.ld C' (slot (grid0.coords t)) = sOf (Gat m c t) ∧ ∀ i' : grid0.Coords, (i' 1).val ≠ ((grid0.coords t) 1).val → View.ld C' (slot i') = View.ld C (slot i')) →
      Carried m c (t.val + 1) C' := by
    intro C C' hC hC' t' h1 h2
    by_cases e : t'.val = t.val
    · obtain rfl : t' = t := Fin.ext e
      rw [hC'.1, sOf_Gat]
    · rw [hC'.2 _ (by rw [hcol, hcol]; omega)]
      exact hC t' (by omega) (by omega)
  have main : ∀ hs C, (¬ condJ (grid0.coords t) → Hat m c t = hs) → Carried m c t.val C →
      (¬ condF (grid0.coords t) → Sat m c (backPt t 11) = View.ld C (slot (grid0.coords t))) →
      iprop((owns (c : Thread nD τ) scH fullShare hs ∗ (∃ d, owns (c : Thread nD τ) scG fullShare d) ∗ owns (c : Thread nD τ) scC fullShare C) ∗ (∃ r, prngReg c r)
        ∗ (dats m 0 c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ (∃ d, owns (c : Thread nD τ) (ms7 t) fullShare d)
        ∗ (∃ d, owns (c : Thread nD τ) (ms8 t) fullShare d)) ⊢ wp frame (wpE (defs₀ (F := F)) Variants.none c none) Set.univ (bodyAt0 t) (fun _ => iprop(((owns (c : Thread nD τ) scH fullShare (Hat m c ⟨t.val, t.isLt⟩) ∗ (∃ d, owns (c : Thread nD τ) scG fullShare d)
      ∗ (∃ C, ⌜Carried m c (t.val + 1) C⌝ ∗ owns (c : Thread nD τ) scC fullShare C)) ∗ (∃ r, prngReg c r)) ∗ (dats m 0 c).owesAt () t.castSucc
        ∗ owns (c : Thread nD τ) (ms0 t) fullShare (iblk m c 0 t)
        ∗ owns (c : Thread nD τ) (ms1 t) fullShare (iblk m c 1 t)
        ∗ owns (c : Thread nD τ) (ms2 t) fullShare (iblk m c 2 t)
        ∗ owns (c : Thread nD τ) (ms3 t) fullShare (iblk m c 3 t)
        ∗ owns (c : Thread nD τ) (ms4 t) fullShare (iblk m c 4 t)
        ∗ owns (c : Thread nD τ) (ms5 t) fullShare (iblk m c 5 t)
        ∗ owns (c : Thread nD τ) (ms6 t) fullShare (iblk m c 6 t)
        ∗ owns (c : Thread nD τ) (ms7 t) fullShare (Yat m c t)
        ∗ owns (c : Thread nD τ) (ms8 t) fullShare (Tat m c t))) := by
    intro hs C hh hC hS
    unfold bodyAt0
    iintro ⟨⟨HS0, HS1, HS2⟩, Hg, Ho, H0, H1, H2, H3, H4, H5, H6, H7, H8⟩
    iapply (body_run c (grid0.coords t) _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) hs C (Hat m c t) hH hh (Gat m c t) hG1 (fun hf => (hG2 hf).trans (by rw [hS hf])) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, ⟨%C', %hC', HS2⟩⟩
    isplitl [HS0 HS1 HS2 Hg]
    · isplitl [HS0 HS1 HS2]
      · isplitl [HS0]; · iexact HS0
        isplitl [HS1]; · iexact HS1
        iexists C'
        isplitr
        · ipureintro; exact hkeep C C' hC hC'
        · iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  by_cases hz : t.val = 0
  · rw [PhiS_castSucc m c t, PhiS_zero m c _ _ hz, PhiA0_eq]
    iintro ⟨⟨⟨⟨%hs, HS0⟩, HS1, ⟨%C, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (main hs C (fun hj => absurd ((hcondJ t).mpr (by omega)) hj) (fun t' h1 h2 => absurd h1 (by omega))
      (fun hf => absurd ((hcondF t).mpr (by omega)) hf))
    isplitl [HS0 HS1 HS2]
    · isplitl [HS0]; · iexact HS0
      isplitl [HS1]; · iexact HS1
      iexact HS2
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · rw [PhiS_castSucc m c t, PhiS_pos m c _ _ hz]
    iintro ⟨⟨⟨HS0, HS1, ⟨%C, %hC, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (main _ C (fun hj => (Hat_back m c t fun e => hj ((hcondJ t).mpr e)).symm) hC
      (fun hf => by
        have hf' : ¬ t.val / 11 % 4 = 0 := fun e => hf ((hcondF t).mpr e)
        have h11 : 11 ≤ t.val := by omega
        have hb : (backPt t 11).val = t.val - 11 := rfl
        rw [← hC (backPt t 11) (by omega) (by omega)]
        exact ld_slot C _ _ (by rw [hcol, hcol, hb]; omega)))
    isplitl [HS0 HS1 HS2]
    · isplitl [HS0]; · iexact HS0
      isplitl [HS1]; · iexact HS1
      iexact HS2
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the region is handed is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back. -/
theorem hout (c : Dev nD) : (dats m 0 c).Φ (Fin.last cfg0.N) ⊢ Pipeline.ΦA spec0 c := by
  have hN : cfg0.N = 88 := N_0
  rw [show (dats m 0 c).Φ (Fin.last cfg0.N) = PhiS m c cfg0.N (Nat.le_refl _) from rfl, PhiS_pos m c _ _ (by omega), PhiA0_eq]
  iintro ⟨⟨HS0, HS1, ⟨%C, -, HS2⟩⟩, Hg⟩
  isplitl [HS0 HS1 HS2]
  · isplitl [HS0]
    · iexists _; iexact HS0
    isplitl [HS1]; · iexact HS1
    iexists _; iexact HS2
  iexact Hg

set_option backward.isDefEq.respectTransparency.types false in
/-- The launch: every array at what the proof data says, every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

/-- The program runs to the end, keeps its arguments and leaves no semaphore raised. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end UpRun

end
-- ==== Proof.UpFrame.lean ====
module

public import proofs.«01_k».proof.Defs
public import proofs.«01_k».proof.Proof.Gen.KernelUp
public import proofs.«01_k».proof.Proof.UpRun
public import proofs.«01_k».proof.Proof.UpRunBits

/-! The frames of the feed-forward block's first product: each program's own run. -/

@[expose] public section

noncomputable section

namespace UpFrame

open Idealize.ShloMosaic Idealize.SL.Sem

/-- The idealised kernel runs to the end, keeps its arguments and leaves no semaphore raised. -/
theorem frame_KernelUpIdeal : Cert.quiescent_KernelUpIdeal := fun m ρ _ => UpRun.framed (F := Ideal) m ρ

/-- So does the kernel. -/
theorem frame_KernelUp : Cert.quiescent_KernelUp := fun m ρ _ => UpRunBits.framed (F := Bits) m ρ

end UpFrame

end
-- ==== Proof.UpRef.lean ====
module

public import proofs.«01_k».proof.Proof.Gen.ReferenceUpIdeal.Run
public import Idealize.ShloMosaic.Lib.Pipeline.ValueKit

/-! The feed-forward block's first product, as its reference computes it: the parts of the reference's results, and each
    part element by element. -/

@[expose] public section

set_option maxRecDepth 16384

noncomputable section

open Idealize.ShloMosaic Idealize.ShloMosaic.TcCoe Idealize.SL.Sem

namespace Cert.UpRef

open Cert.ReferenceUpIdeal Cert.ReferenceUpIdeal.Gen

set_option maxHeartbeats 1000000

/-- The normalised rows, by sequence. -/
def NORM (x : FVec Ideal S8192x2048 .f32) (g : FVec Ideal S2048 .f32) : FVec Ideal S2x4096x2048 .f32 :=
  (mulf (mulf (shapeCast _ x shapeCasts_S8192x2048_S2x4096x2048) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (shapeCast _ x shapeCasts_S8192x2048_S2x4096x2048) (shapeCast _ x shapeCasts_S8192x2048_S2x4096x2048)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g)))

/-- The product of the normalised rows: the gate's columns, then the columns it gates. -/
def PROD (x : FVec Ideal S8192x2048 .f32) (g : FVec Ideal S2048 .f32) (w : FVec Ideal S2048x11264 .f32) :
    FVec Ideal S2x4096x11264 .f32 :=
  (Host.dotGeneral dot_S2x4096x2048_S2048x11264_S2x4096x11264_2_0_01_1_n_n none (NORM x g) w)

/-- The gate's columns under two rows of zeros. -/
def FULL (U : FVec Ideal S2x4096x11264 .f32) : FVec Ideal S2x4098x5632 .f32 :=
  concatenate S2x4098x5632 1 [⟨S2x2x5632, (broadcastInDim S2x2x5632 ![] bcast_S_S2x2x5632 (constant S_ .f32 0x00000000#32))⟩, ⟨S2x4096x5632, (extractStridedSlice S2x4096x5632 ![0, 0, 0] U slices_S2x4096x11264_S2x4096x5632_0_0_0)⟩] concatenates_S2x2x5632_S2x4096x5632_S2x4098x5632_d1

/-- The convolution of the gate along the sequence. -/
def CONV (U : FVec Ideal S2x4096x11264 .f32) (cw : FVec Ideal S3x5632 .f32) (cb : FVec Ideal S5632 .f32) :
    FVec Ideal S2x4096x5632 .f32 :=
  (addf (addf (addf (mulf (extractStridedSlice S2x4096x5632 ![0, 0, 0] (FULL U) slices_S2x4098x5632_S2x4096x5632_0_0_0) (broadcastInDim S2x4096x5632 ![0, 1, 2] bcast_S1x1x5632_S2x4096x5632_0_1_2 (broadcastInDim S1x1x5632 ![2] bcast_S5632_S1x1x5632_2 (shapeCast _ (extractStridedSlice S1x5632 ![0, 0] cw slices_S3x5632_S1x5632_0_0) shapeCasts_S1x5632_S5632)))) (mulf (extractStridedSlice S2x4096x5632 ![0, 1, 0] (FULL U) slices_S2x4098x5632_S2x4096x5632_0_1_0) (broadcastInDim S2x4096x5632 ![0, 1, 2] bcast_S1x1x5632_S2x4096x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S2x4096x5632 ![0, 2, 0] (FULL U) slices_S2x4098x5632_S2x4096x5632_0_2_0) (broadcastInDim S2x4096x5632 ![0, 1, 2] bcast_S1x1x5632_S2x4096x5632_0_1_2 (broadcastInDim S1x1x5632 ![2] bcast_S5632_S1x1x5632_2 (shapeCast _ (extractStridedSlice S1x5632 ![2, 0] cw slices_S3x5632_S1x5632_2_0) shapeCasts_S1x5632_S5632))))) (broadcastInDim S2x4096x5632 ![0, 1, 2] bcast_S1x1x5632_S2x4096x5632_0_1_2 (broadcastInDim S1x1x5632 ![2] bcast_S5632_S1x1x5632_2 cb)))

/-- The activations, row by row. -/
def ACT (U : FVec Ideal S2x4096x11264 .f32) (cw : FVec Ideal S3x5632 .f32) (cb : FVec Ideal S5632 .f32) :
    FVec Ideal S8192x5632 .bf16 :=
  truncf .bf16 (shapeCast _ (mulf (mulf (CONV U cw cb) (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf (CONV U cw cb)))))) (extractStridedSlice S2x4096x5632 ![0, 0, 5632] U slices_S2x4096x11264_S2x4096x5632_0_0_5632)) shapeCasts_S2x4096x5632_S8192x5632) bitsLt_bf16_f32

/-- The gate's last two rows of each sequence. -/
def LAST (U : FVec Ideal S2x4096x11264 .f32) : FVec Ideal S2x2x5632 .f32 :=
  extractStridedSlice S2x2x5632 ![0, 4096, 0] (FULL U) slices_S2x4098x5632_S2x2x5632_0_4096_0

/-- The reference's first result is made of these parts. -/
theorem res_act (m : (ℓ : Loc nD τ sig) → Buf (Elt Ideal) ℓ) (c : Dev nD) : Value.res_main_v46 m c
    = ACT (PROD (m ((c.tc : Thread nD τ).loc main_arg0)) (m ((c.tc : Thread nD τ).loc main_arg1))
        (m ((c.tc : Thread nD τ).loc main_arg2))) (m ((c.tc : Thread nD τ).loc main_arg3)) (m ((c.tc : Thread nD τ).loc main_arg4)) := by
  unfold Value.res_main_v46 ACT CONV FULL PROD NORM
  rfl

/-- A row of the buffer of gate rows: zeros for the first two rows, the product's gate columns from there. -/
theorem full_at (U : FVec Ideal S2x4096x11264 .f32) (b : Fin 2) (p : Fin 4098) (j : Fin 5632) (j' : Fin 11264)
    (hj : j'.val = j.val) : FULL U (ix3 b p j)
      = if h : p.val < 2 then (0 : EReal) else U (ix3 b ⟨p.val - 2, by omega⟩ j') := by
  obtain ⟨j', hj'⟩ := j'
  subst hj
  pointwise [FULL]

/-- The convolution at an element. -/
theorem conv_at (U : FVec Ideal S2x4096x11264 .f32) (cw : FVec Ideal S3x5632 .f32) (cb : FVec Ideal S5632 .f32)
    (b : Fin 2) (p : Fin 4096) (j : Fin 5632) : CONV U cw cb (ix3 b p j)
      = FULL U (ix3 b ⟨p.val, by omega⟩ j) * cw (ix2 0 j) + FULL U (ix3 b ⟨1 + p.val, by omega⟩ j) * cw (ix2 1 j)
        + FULL U (ix3 b ⟨2 + p.val, by omega⟩ j) * cw (ix2 2 j) + cb (ix1 j) := by
  pointwise [CONV]

/-- The activation at an element. -/
theorem act_at (U : FVec Ideal S2x4096x11264 .f32) (cw : FVec Ideal S3x5632 .f32) (cb : FVec Ideal S5632 .f32)
    (r : Fin 8192) (j : Fin 5632) : ACT U cw cb (ix2 r j)
      = CONV U cw cb (ix3 ⟨r.val / 4096, by omega⟩ ⟨r.val % 4096, by omega⟩ j)
        * Ideal.div 1 (1 + Ideal.exp (-CONV U cw cb (ix3 ⟨r.val / 4096, by omega⟩ ⟨r.val % 4096, by omega⟩ j)))
        * U (ix3 ⟨r.val / 4096, by omega⟩ ⟨r.val % 4096, by omega⟩ ⟨5632 + j.val, by omega⟩) := by
  pointwise [ACT]

/-- The last rows at an element. -/
theorem last_at (U : FVec Ideal S2x4096x11264 .f32) (b : Fin 2) (p : Fin 2) (j : Fin 5632) : LAST U (ix3 b p j)
      = FULL U (ix3 b ⟨4096 + p.val, by omega⟩ j) := by
  pointwise [LAST]

/-- A product of rows kept by sequence, at an element. -/
theorem dot_at (N : FVec Ideal S2x4096x2048 .f32) (w : FVec Ideal S2048x11264 .f32) (b : Fin 2) (p : Fin 4096)
    (j : Fin 11264) : Host.dotGeneral (F := Ideal) (φ₁ := .f32) (φ₂ := .f32)
        dot_S2x4096x2048_S2048x11264_S2x4096x11264_2_0_01_1_n_n none N w (ix3 b p j)
      = ∑ k : Fin 2048, N (ix3 b p k) * w (ix2 k j) := by
  pointwise

/-- The product at an element. -/
theorem prod_at (x : FVec Ideal S8192x2048 .f32) (g : FVec Ideal S2048 .f32) (w : FVec Ideal S2048x11264 .f32)
    (b : Fin 2) (p : Fin 4096) (j : Fin 11264) : PROD x g w (ix3 b p j)
      = ∑ k : Fin 2048, NORM x g (ix3 b p k) * w (ix2 k j) := dot_at _ _ b p j

end Cert.UpRef

end
-- ==== Proof.UpValue.lean ====
module

public import proofs.«01_k».proof.Proof.UpRun
public import proofs.«01_k».proof.Proof.UpRef
public import Idealize.ShloMosaic.Lib.Pipeline.ReadBack

/-! The feed-forward block's first product: the values of the idealized kernel's two result arrays. -/

@[expose] public section

set_option maxRecDepth 16384

noncomputable section

open Idealize.ShloMosaic Idealize.ShloMosaic.TcCoe Idealize.SL.Sem
open Idealize.ShloMosaic.Pipeline (Dat)

namespace UpValue

open Cert.KernelUpIdeal Cert.KernelUpIdeal.Gen UpBody UpRun Cert.UpRef

set_option maxHeartbeats 1000000

variable (m : (ℓ : Loc nD τ sig) → Buf (Elt Ideal) ℓ)

/-- The block index of each window at every grid point. -/
theorem idx : ∀ t : Fin cfg0.N, win0_0.index t = ![t.val / 11, 0] ∧ win0_1.index t = ![0, 0] ∧
    win0_2.index t = ![0, t.val % 11] ∧ win0_3.index t = ![0, 11 + t.val % 11] ∧
    win0_4.index t = ![0, t.val % 11] ∧ win0_5.index t = ![0, t.val % 11] ∧
    win0_6.index t = ![t.val / 44, 0, t.val % 11] ∧
    win0_7.index t = ![t.val / 11, t.val % 11] ∧ win0_8.index t = ![t.val / 11, 0, t.val % 11] :=
  (by decide +kernel : ∀ t : Fin grid0.N, _)

/-- The weights the launch finds are the argument's, the gate as one row, the bias as one row, the state zero. -/
theorem V_v1 (c : Dev nD) : V m c main_v1 = truncf (F := Ideal) (s := S2048x11264) (φ := .f32) .bf16 (m ((c : Thread nD τ).loc main_arg2)) bitsLt_bf16_f32 := by
  unfold V V0; simp only [List.flatten_cons, List.flatten_nil, List.append_nil]; after_results
/-- The norm's gain as one row. -/
theorem V_v2 (c : Dev nD) : V m c main_v2 = shapeCast S1x2048 (m ((c : Thread nD τ).loc main_arg1) : FVec Ideal S2048 .f32) shapeCasts_S2048_S1x2048 := by
  unfold V V0; simp only [List.flatten_cons, List.flatten_nil, List.append_nil]; after_results; rfl
/-- The bias as one row. -/
theorem V_v3 (c : Dev nD) : V m c main_v3 = shapeCast S1x5632 (m ((c : Thread nD τ).loc main_arg4) : FVec Ideal S5632 .f32) shapeCasts_S5632_S1x5632 := by
  unfold V V0; simp only [List.flatten_cons, List.flatten_nil, List.append_nil]; after_results; rfl
/-- The state before the sequence is zero. -/
theorem V_v0 (c : Dev nD) : V m c main_v0 = broadcastInDim S2x2x5632 ![] bcast_S_S2x2x5632 (constant (F := Ideal) S_ .f32 0x00000000#32) := by
  unfold V V0; simp only [List.flatten_cons, List.flatten_nil, List.append_nil]; after_results

/-- The gate's columns and the gated ones, as one array, of the launch's arguments. -/
abbrev P (c : Dev nD) : FVec Ideal Cert.ReferenceUpIdeal.S2x4096x11264 .f32 :=
  PROD (m ((c : Thread nD τ).loc main_arg0)) (m ((c : Thread nD τ).loc main_arg1)) (m ((c : Thread nD τ).loc main_arg2))

/-- The rows the first point of a row tile normalises are the reference's normalised rows. -/
theorem norm_at (c : Dev nD) (t : Fin cfg0.N) (y : S1024x2048.Idx) (b : Fin 2) (p : Fin 4096) (k : Fin 2048)
    (hr : b.val * 4096 + p.val = t.val / 11 * 1024 + (y 0).val) (hk : k.val = (y 1).val) :
    k0_pay1 (iblk m c 0 t) (iblk m c 1 t) y
      = NORM (m ((c : Thread nD τ).loc main_arg0)) (m ((c : Thread nD τ).loc main_arg1)) (ix3 b p k) := by
  pointwise [k0_pay1, NORM]
  blk_point [iblk, V, idx t]
  have e : (win0_1.blk t).view.emb (ix2 0 (y 1)) = ix2 (0 : Fin 1) k := by blk_ext! [idx t]
  refine (congrFun (V_v2 m c) _).trans ((congrArg _ e).trans ?_)
  pointwise

/-- The rows a point works on are the reference's normalised rows. -/
theorem hat_at (c : Dev nD) (t : Fin cfg0.N) (y : S1024x2048.Idx) (b : Fin 2) (p : Fin 4096) (k : Fin 2048)
    (hr : b.val * 4096 + p.val = t.val / 11 * 1024 + (y 0).val) (hk : k.val = (y 1).val) :
    Hat m c t y = NORM (m ((c : Thread nD τ).loc main_arg0)) (m ((c : Thread nD τ).loc main_arg1)) (ix3 b p k) := by
  have ht := lt88 t
  have e : (rowPt t).val / 11 = t.val / 11 := by show (t.val - t.val % 11) / 11 = _; omega
  exact norm_at m c (rowPt t) y b p k (by rw [e]; exact hr) hk

/-- A point's gate product is the reference's product at the point's rows and columns. -/
theorem dat_at (c : Dev nD) (t : Fin cfg0.N) (y : S1024x512.Idx) (b : Fin 2) (p : Fin 4096) (j : Fin 11264)
    (hr : b.val * 4096 + p.val = t.val / 11 * 1024 + (y 0).val) (hj : j.val = t.val % 11 * 512 + (y 1).val) :
    Dat0 m c t y = P m c (ix3 b p j) := by
  unfold Dat0
  refine Eq.trans ?_ (prod_at _ _ _ b p j).symm
  pointwise [k0_pay5]
  refine Finset.sum_congr rfl fun k _ => ?_
  congr 1
  · exact hat_at m c t _ b p k hr rfl
  · refine (congrFun (V_v1 m c) _).trans ?_
    pointwise
    blk_ext! [idx t]

/-- The columns a point gates, as a product of its own: the reference's product at the columns of the second half. -/
theorem up_at (c : Dev nD) (t : Fin cfg0.N) (y : S1024x512.Idx) (b : Fin 2) (p : Fin 4096) (j : Fin 11264)
    (hr : b.val * 4096 + p.val = t.val / 11 * 1024 + (y 0).val) (hj : j.val = 5632 + t.val % 11 * 512 + (y 1).val) :
    ∑ k : Fin 2048, Hat m c t (ix2 (y 0) k) * iblk m c 3 t (ix2 k (y 1)) = P m c (ix3 b p j) := by
  refine Eq.trans ?_ (prod_at _ _ _ b p j).symm
  refine Finset.sum_congr rfl fun k _ => ?_
  congr 1
  · exact hat_at m c t _ b p k hr rfl
  · refine (congrFun (V_v1 m c) _).trans ?_
    pointwise
    blk_ext! [idx t]

/-- A row of a first tile's gate buffer from 8 on is the product's. -/
theorem gFirst_hi (x : Vec Ideal S1x2x512 .f32) (d : Vec Ideal S1024x512 .f32) (y : S1032x512.Idx) (z : S1024x512.Idx)
    (h0 : (y 0).val = 8 + (z 0).val) (h1 : (y 1).val = (z 1).val) : gFirst x d y = d z := by
  have e : y = (Rect.unit (s := S1032x512) ![8, 0] S1024x512.size inb_S1032x512_S1024x512_8_0).emb z := by
    funext a; apply Fin.ext
    fin_cases a
    · show (y 0).val = 8 + 1 * (z 0).val; omega
    · show (y 1).val = 0 + 1 * (z 1).val; omega
  rw [e]
  exact View.canon_cons_emb _ _ _ _

/-- Rows 6 and 7 of a first tile's gate buffer are the state's. -/
theorem gFirst_lo (x : Vec Ideal S1x2x512 .f32) (d : Vec Ideal S1024x512 .f32) (y : S1032x512.Idx) (z : S2x512.Idx)
    (h0 : (y 0).val = 6 + (z 0).val) (h1 : (y 1).val = (z 1).val) : gFirst x d y = k0_pay3 x z := by
  have e : y = (Rect.unit (s := S1032x512) ![6, 0] S2x512.size inb_S1032x512_S2x512_6_0).emb z := by
    funext a; apply Fin.ext
    fin_cases a
    · show (y 0).val = 6 + 1 * (z 0).val; omega
    · show (y 1).val = 0 + 1 * (z 1).val; omega
  have hz : (z 0).val < 2 := (z 0).isLt
  refine (View.canon_cons_of_not_mem _ _ (Rect.not_mem_set_of_axis _ y 0 8 1024 rfl rfl rfl (Or.inl (by omega)))).trans ?_
  rw [e]
  exact View.canon_cons_emb _ _ _ _

/-- A row of a later tile's gate buffer from 8 on is the product's. -/
theorem gNext_hi (s : Vec Ideal S1x8x512 .f32) (d : Vec Ideal S1024x512 .f32) (y : S1032x512.Idx) (z : S1024x512.Idx)
    (h0 : (y 0).val = 8 + (z 0).val) (h1 : (y 1).val = (z 1).val) : gNext s d y = d z := by
  have e : y = (Rect.unit (s := S1032x512) ![8, 0] S1024x512.size inb_S1032x512_S1024x512_8_0).emb z := by
    funext a; apply Fin.ext
    fin_cases a
    · show (y 0).val = 8 + 1 * (z 0).val; omega
    · show (y 1).val = 0 + 1 * (z 1).val; omega
  rw [e]
  exact View.canon_cons_emb _ _ _ _

/-- The first eight rows of a later tile's gate buffer are the carried ones. -/
theorem gNext_lo (s : Vec Ideal S1x8x512 .f32) (d : Vec Ideal S1024x512 .f32) (y : S1032x512.Idx) (z : S8x512.Idx)
    (h0 : (y 0).val = (z 0).val) (h1 : (y 1).val = (z 1).val) : gNext s d y = k0_pay4 s z := by
  have e : y = (Rect.unit (s := S1032x512) ![0, 0] S8x512.size inb_S1032x512_S8x512_0_0).emb z := by
    funext a; apply Fin.ext
    fin_cases a
    · show (y 0).val = 0 + 1 * (z 0).val; omega
    · show (y 1).val = 0 + 1 * (z 1).val; omega
  have hz : (z 0).val < 8 := (z 0).isLt
  refine (View.canon_cons_of_not_mem _ _ (Rect.not_mem_set_of_axis _ y 0 8 1024 rfl rfl rfl (Or.inl (by omega)))).trans ?_
  rw [e]
  exact View.canon_cons_emb _ _ _ _

/-- The state a point finds is zero. -/
theorem state_at (c : Dev nD) (t : Fin cfg0.N) (z : S2x512.Idx) : k0_pay3 (iblk m c 6 t) z = 0 := by
  pointwise [k0_pay3]
  refine (congrFun (V_v0 m c) _).trans ?_
  pointwise

/-- What a point carries on, at an element: a row of its product's last eight. -/
theorem sat_at (c : Dev nD) (t : Fin cfg0.N) (z : S8x512.Idx) (u : S1024x512.Idx) (h0 : (u 0).val = 1016 + (z 0).val)
    (h1 : (u 1).val = (z 1).val) : k0_pay4 (Sat m c t) z = Dat0 m c t u := by
  unfold Sat
  generalize Dat0 m c t = D
  pointwise [k0_pay4, k0_pay9]
  refine congrArg D (funext fun a => Fin.ext ?_)
  match a with
  | 0 => exact h0.symm
  | 1 => exact h1.symm

/-- The gate buffer from row 6 on is the reference's buffer from the tile's first row on. -/
theorem gat_at (c : Dev nD) (t : Fin cfg0.N) (y : S1032x512.Idx) (b : Fin 2) (p : Fin 4098) (j : Fin 5632)
    (h6 : 6 ≤ (y 0).val) (hb : b.val = t.val / 44) (hp : p.val + 6 = t.val / 11 % 4 * 1024 + (y 0).val)
    (hj : j.val = t.val % 11 * 512 + (y 1).val) : Gat m c t y = FULL (P m c) (ix3 b p j) := by
  have ht := lt88 t
  have hy0 : (y 0).val < 1032 := (y 0).isLt
  have hy1 : (y 1).val < 512 := (y 1).isLt
  rw [full_at (P m c) b p j ⟨j.val, by omega⟩ rfl]
  unfold Gat
  by_cases h8 : 8 ≤ (y 0).val
  · have e : Dat0 m c t (ix2 (⟨(y 0).val - 8, by omega⟩ : Fin 1024) (⟨(y 1).val, hy1⟩ : Fin 512))
        = P m c (ix3 b ⟨p.val - 2, by omega⟩ ⟨j.val, by omega⟩) :=
      dat_at m c t _ b _ _ (by show b.val * 4096 + (p.val - 2) = t.val / 11 * 1024 + ((y 0).val - 8); omega) hj
    rw [dif_neg (by omega), ← e]
    split
    · exact gFirst_hi _ _ _ _ (by show (y 0).val = 8 + ((y 0).val - 8); omega) rfl
    · exact gNext_hi _ _ _ _ (by show (y 0).val = 8 + ((y 0).val - 8); omega) rfl
  · split
    · rw [dif_pos (by omega)]
      exact (gFirst_lo _ _ y (ix2 (⟨(y 0).val - 6, by omega⟩ : Fin 2) (⟨(y 1).val, hy1⟩ : Fin 512))
        (by show (y 0).val = 6 + ((y 0).val - 6); omega) rfl).trans (state_at m c t _)
    · rw [dif_neg (by omega)]
      refine (gNext_lo _ _ y (ix2 (⟨(y 0).val, by omega⟩ : Fin 8) (⟨(y 1).val, hy1⟩ : Fin 512)) rfl rfl).trans ?_
      refine (sat_at m c (backPt t 11) _ (ix2 (⟨1016 + (y 0).val, by omega⟩ : Fin 1024) (⟨(y 1).val, hy1⟩ : Fin 512)) rfl rfl).trans ?_
      refine dat_at m c (backPt t 11) _ b _ _ ?_ ?_
      · show b.val * 4096 + (p.val - 2) = (t.val - 11) / 11 * 1024 + (1016 + (y 0).val); omega
      · show j.val = (t.val - 11) % 11 * 512 + (y 1).val; omega

/-- A vector as one row, at an element. -/
theorem row_at (x : FVec Ideal S5632 .f32) (j : Fin 5632) : shapeCast S1x5632 x shapeCasts_S5632_S1x5632 (ix2 0 j) = x (ix1 j) := by
  pointwise

/-- The activation block a point writes is the reference's activations at the block's rows and columns. -/
theorem yat_at (c : Dev nD) (t : Fin cfg0.N) (y : S1024x512.Idx) (r : Fin 8192) (j : Fin 5632)
    (hr : r.val = t.val / 11 * 1024 + (y 0).val) (hj : j.val = t.val % 11 * 512 + (y 1).val) :
    Yat m c t y = ACT (P m c) (m ((c : Thread nD τ).loc main_arg3)) (m ((c : Thread nD τ).loc main_arg4)) (ix2 r j) := by
  have ht := lt88 t
  have hy0 : (y 0).val < 1024 := (y 0).isLt
  have hy1 : (y 1).val < 512 := (y 1).isLt
  have g0 := gat_at m c t (ix2 (⟨6 + (y 0).val, by omega⟩ : Fin 1032) (⟨(y 1).val, hy1⟩ : Fin 512)) ⟨r.val / 4096, by omega⟩
    ⟨r.val % 4096, by omega⟩ j (by show 6 ≤ 6 + (y 0).val; omega) (by show r.val / 4096 = _; omega)
    (by show r.val % 4096 + 6 = t.val / 11 % 4 * 1024 + (6 + (y 0).val); omega) hj
  have g1 := gat_at m c t (ix2 (⟨7 + (y 0).val, by omega⟩ : Fin 1032) (⟨(y 1).val, hy1⟩ : Fin 512)) ⟨r.val / 4096, by omega⟩
    ⟨1 + r.val % 4096, by omega⟩ j (by show 6 ≤ 7 + (y 0).val; omega) (by show r.val / 4096 = _; omega)
    (by show 1 + r.val % 4096 + 6 = t.val / 11 % 4 * 1024 + (7 + (y 0).val); omega) hj
  have g2 := gat_at m c t (ix2 (⟨8 + (y 0).val, by omega⟩ : Fin 1032) (⟨(y 1).val, hy1⟩ : Fin 512)) ⟨r.val / 4096, by omega⟩
    ⟨2 + r.val % 4096, by omega⟩ j (by show 6 ≤ 8 + (y 0).val; omega) (by show r.val / 4096 = _; omega)
    (by show 2 + r.val % 4096 + 6 = t.val / 11 % 4 * 1024 + (8 + (y 0).val); omega) hj
  have gu := up_at m c t y ⟨r.val / 4096, by omega⟩ ⟨r.val % 4096, by omega⟩ ⟨5632 + j.val, by omega⟩
    (by show r.val / 4096 * 4096 + r.val % 4096 = _; omega) (by show 5632 + j.val = _; omega)
  rw [act_at, conv_at]
  unfold Yat yOf
  rw [← g0, ← g1, ← g2, ← gu]
  generalize Gat m c t = G
  generalize Hat m c t = H
  have c4 : ∀ k : Fin 3, iblk m c 4 t (ix2 k (y 1)) = m ((c : Thread nD τ).loc main_arg3) (ix2 k j) := by
    intro k
    rw [← V_main_arg3 m c]
    blk_ext! [iblk, idx t]
  have c5 : iblk m c 5 t (ix2 0 (y 1)) = m ((c : Thread nD τ).loc main_arg4) (ix1 j) := by
    have e : (win0_5.blk t).view.emb (ix2 0 (y 1)) = ix2 (0 : Fin 1) j := by blk_ext! [idx t]
    exact (congrFun (V_v3 m c) _).trans ((congrArg _ e).trans (row_at _ j))
  pointwise [k0_pay8, k0_pay6, k0_pay7]
  have c40 := c4 0
  have c41 := c4 1
  have c42 := c4 2
  rw [c40, c41, c42, c5]
  rfl

/-- The tail rows a point writes are the reference's buffer's two rows behind the tile. -/
theorem tat_at (c : Dev nD) (t : Fin cfg0.N) (y : S1x2x512.Idx) (b : Fin 2) (p : Fin 4098) (j : Fin 5632)
    (hb : b.val = t.val / 44) (hp : p.val = t.val / 11 % 4 * 1024 + 1024 + (y 1).val)
    (hj : j.val = t.val % 11 * 512 + (y 2).val) : Tat m c t y = FULL (P m c) (ix3 b p j) := by
  have hy1 : (y 1).val < 2 := (y 1).isLt
  have hy2 : (y 2).val < 512 := (y 2).isLt
  have g := gat_at m c t (ix2 (⟨1030 + (y 1).val, by omega⟩ : Fin 1032) (⟨(y 2).val, hy2⟩ : Fin 512)) b p j
    (by show 6 ≤ 1030 + (y 1).val; omega) hb (by show p.val + 6 = t.val / 11 % 4 * 1024 + (1030 + (y 1).val); omega) hj
  unfold Tat tOf
  rw [← g]
  generalize Gat m c t = G
  pointwise [k0_pay10]

/-- The two rows behind each row tile, in the reference's buffer. -/
def TAILS (U : FVec Ideal Cert.ReferenceUpIdeal.S2x4096x11264 .f32) : FVec Ideal S8x2x5632 .f32 := fun y =>
  FULL U (ix3 (⟨(y 0).val / 4, by have h : (y 0).val < 8 := (y 0).isLt; omega⟩ : Fin 2)
    (⟨(y 0).val % 4 * 1024 + 1024 + (y 1).val, by have h : (y 1).val < 2 := (y 1).isLt; omega⟩ : Fin 4098)
    (⟨(y 2).val, (y 2).isLt⟩ : Fin 5632))

/-- The activations' array after the run is the reference's. -/
theorem final7 (c : Dev nD) : (dats m 0 c).arrAt 7 (cfgs 0).N
    = ACT (P m c) (m ((c : Thread nD τ).loc main_arg3)) (m ((c : Thread nD τ).loc main_arg4)) := by
  refine (dats m 0 c).arrAt_eq_of_covers 7 _ (by decide +kernel) fun t hf y => ?_
  blk_simp
  rw [after0_7]
  have ht := lt88 t
  have hy0 : (y 0).val < 1024 := (y 0).isLt
  have hy1 : (y 1).val < 512 := (y 1).isLt
  have e : ((cfg0.win 7).blk t).view.emb y = ix2 (⟨t.val / 11 * 1024 + (y 0).val, by omega⟩ : Fin 8192)
      (⟨t.val % 11 * 512 + (y 1).val, by omega⟩ : Fin 5632) := by blk_ext! [idx t]
  rw [e]
  exact yat_at m c t y _ _ rfl rfl

/-- The tails' array after the run holds the two rows behind each row tile. -/
theorem final8 (c : Dev nD) : (dats m 0 c).arrAt 8 (cfgs 0).N = TAILS (P m c) := by
  refine (dats m 0 c).arrAt_eq_of_covers 8 _ (by decide +kernel) fun t hf y => ?_
  blk_simp
  rw [after0_8]
  have ht := lt88 t
  have hy0 : (y 0).val < 1 := (y 0).isLt
  have hy1 : (y 1).val < 2 := (y 1).isLt
  have hy2 : (y 2).val < 512 := (y 2).isLt
  have e : ((cfg0.win 8).blk t).view.emb y = ix3 (⟨t.val / 11, by omega⟩ : Fin 8) (⟨(y 1).val, by omega⟩ : Fin 2)
      (⟨t.val % 11 * 512 + (y 2).val, by omega⟩ : Fin 5632) := by blk_ext! [idx t]
  rw [e]
  exact tat_at m c t y _ _ _ (by show t.val / 11 / 4 = t.val / 44; omega) rfl rfl

/-- Behind the last tile of each sequence stand the gate's last rows. -/
theorem tails_last (U : FVec Ideal Cert.ReferenceUpIdeal.S2x4096x11264 .f32) :
    Host.slice S2x2x5632 ![3, 0, 0] ![4, 1, 1] (TAILS U) slicesBy_S8x2x5632_S2x2x5632_3s4_0s1_0s1 = LAST U := by
  funext y
  rw [eq_ix3 y]
  refine Eq.trans ?_ (last_at U (y 0) (y 1) (y 2)).symm
  pointwise
  have h0 : (y 0).val < 2 := (y 0).isLt
  unfold TAILS
  refine congrArg (FULL U) (funext fun a => Fin.ext ?_)
  match a with
  | 0 => show (3 + 4 * (y 0).val) / 4 = (y 0).val; omega
  | 1 => show (3 + 4 * (y 0).val) % 4 * 1024 + 1024 + (y 1).val = 4096 + (y 1).val; omega
  | 2 => rfl

/-- The host code behind the launch takes the gate's last rows. -/
theorem final_last (c : Dev nD) : Pipeline.afterTail₀ cfgs (dats m) 0 (V0 m) [hostOps1] c main_v5 = LAST (P m c) := by
  rw [← tails_last, ← final8 m c]
  unfold Pipeline.afterTail₀
  simp only [List.flatten_cons, List.flatten_nil, List.append_nil]
  after_results
  exact congrArg (fun x => Host.slice S2x2x5632 ![3, 0, 0] ![4, 1, 1] x slicesBy_S8x2x5632_S2x2x5632_3s4_0s1_0s1)
    (Pipeline.Dat.withArrays_arrAt (dats m 0 c) sharedIn0 (V0 m c) (A_eq m c) 8)

end UpValue

end
-- ==== Proof.UpClaim.lean ====
module

public import proofs.«01_k».proof.Defs
public import proofs.«01_k».proof.Proof.UpValue

/-! The feed-forward block's first product: the idealized kernel computes its reference's two arrays. -/

@[expose] public section

set_option maxRecDepth 16384

noncomputable section

open Idealize.ShloMosaic Idealize.ShloMosaic.TcCoe Idealize.SL.Sem

namespace UpClaim

section Kernel

open Cert.KernelUpIdeal Cert.KernelUpIdeal.Gen

variable (m : (ℓ : Loc nD τ sig) → Buf (Elt Ideal) ℓ) (ρ : Dev nD → PrngReg)

/-- The kernel's run, with what its two results and its arguments hold in the end. -/
theorem run : θ_run defs (onTc (τ := τ) (main (F := Ideal))) ⟨m, fun _ => 0, ρ⟩ fun r => ∀ c : Dev nD,
      r.2.mem ((c.tc : Thread nD τ).loc main_v4_0)
        = Cert.UpRef.ACT (UpValue.P m c) (m ((c.tc : Thread nD τ).loc main_arg3)) (m ((c.tc : Thread nD τ).loc main_arg4))
      ∧ r.2.mem ((c.tc : Thread nD τ).loc main_v5) = Cert.UpRef.LAST (UpValue.P m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 7).trans (UpValue.final7 m c),
      ((h.1 c).2 main_v5 (Pipeline.mem_restRefs_of main_v5 (by decide) (by decide))).trans (UpValue.final_last m c),
      h.2.1 c⟩)
    (θ_run_and (UpRun.run_main m ρ) (UpRun.framed m ρ))

end Kernel

/-- The feed-forward block's first product computes its reference's activations and last gate rows. -/
theorem algebraic : Cert.algebraic_KernelUpIdeal_ReferenceUpIdeal := by
  intro m ρ m' ρ' _ hagree
  refine ⟨_, _, run m ρ, ?_⟩
  refine (θ_run Cert.ReferenceUpIdeal.defs _ _).mono (fun _ h c => ⟨(h c).1.trans ?_, (h c).2.1.trans ?_, (h c).2.2⟩)
    (Cert.ReferenceUpIdeal.Value.run (F := Ideal) m' ρ')
  · obtain ⟨h0, h1, h2, h3, h4⟩ := hagree c
    rw [Cert.UpRef.res_act, h0, h1, h2, h3, h4]
  · obtain ⟨h0, h1, h2, h3, h4⟩ := hagree c
    rw [h0, h1, h2]
    rfl

end UpClaim

end
-- ==== Proof.PrepGroup.lean ====
module

public import proofs.«01_k».proof.Proof.Gen.KernelPrepIdeal

/-! The matrix of zeros and ones that sums a group of 64 lanes. -/

@[expose] public section

set_option maxRecDepth 16384

noncomputable section

open Idealize.ShloMosaic

namespace Cert.PrepGroup

open Cert.KernelPrepIdeal

/-- The words of the matrix of zeros and ones: ones where the two lanes are of one group. -/
theorem lit_at : ∀ n : Fin 16384, lit0 n = if n.val / 128 / 64 = n.val % 128 / 64 then 0x3F80#16 else 0#16 := by
  decide +kernel

end Cert.PrepGroup

end
-- ==== Proof.PrepRef.lean ====
module

public import proofs.«01_k».proof.Proof.Gen.ReferencePrepIdeal.Run
public import proofs.«01_k».proof.Proof.Gen.Pre_keys_finite
public import Idealize.ShloMosaic.Lib.Pipeline.ValueKit
public import Idealize.ShloMosaic.Lib.ReduceAll

/-! The keys' norm, as its reference computes it, element by element, and what the precondition says of an element. -/

@[expose] public section

set_option maxRecDepth 16384

noncomputable section

open Idealize.ShloMosaic Idealize.ShloMosaic.TcCoe Idealize.SL.Sem

namespace Cert.PrepRef

open Cert.ReferencePrepIdeal Cert.ReferencePrepIdeal.Gen

/-- The reference's keys as one term of its arguments. -/
def REF (x : FVec Ideal S8192x14336 .f32) (g : FVec Ideal S64 .f32) : FVec Ideal S8192x1024 .f32 :=
  shapeCast _ (mulf (mulf (shapeCast _ (extractStridedSlice S8192x1024 ![0, 1024] (extractStridedSlice S8192x3072 ![0, 0] x slices_S8192x14336_S8192x3072_0_0) slices_S8192x3072_S8192x1024_0_1024) shapeCasts_S8192x1024_S8192x16x64) (broadcastInDim S8192x16x64 ![0, 1, 2] bcast_S8192x16x1_S8192x16x64_0_1_2 (Host.rsqrt (addf (Host.divf (broadcastInDim S8192x16x1 ![0, 1] bcast_S8192x16_S8192x16x1_0_1 (Host.reduceAdd (mulf (shapeCast _ (extractStridedSlice S8192x1024 ![0, 1024] (extractStridedSlice S8192x3072 ![0, 0] x slices_S8192x14336_S8192x3072_0_0) slices_S8192x3072_S8192x1024_0_1024) shapeCasts_S8192x1024_S8192x16x64) (shapeCast _ (extractStridedSlice S8192x1024 ![0, 1024] (extractStridedSlice S8192x3072 ![0, 0] x slices_S8192x14336_S8192x3072_0_0) slices_S8192x3072_S8192x1024_0_1024) shapeCasts_S8192x1024_S8192x16x64)) (constant S_ .f32 0x00000000#32) reducesTo_S8192x16x64_S8192x16_d2 h_S_)) (broadcastInDim S8192x16x1 ![] bcast_S_S8192x16x1 (constant S_ .f32 0x42800000#32))) (broadcastInDim S8192x16x1 ![] bcast_S_S8192x16x1 (constant S_ .f32 0x358637BD#32)))))) (broadcastInDim S8192x16x64 ![0, 1, 2] bcast_S1x1x64_S8192x16x64_0_1_2 (broadcastInDim S1x1x64 ![2] bcast_S64_S1x1x64_2 g))) shapeCasts_S8192x16x64_S8192x1024

/-- A quotient by sixty-four is a product with its inverse. -/
theorem div_sixtyfour (s : EReal) :
    Ideal.div s (Ideal.ofBits .f32 0x42800000#32) = s * Ideal.ofBits .f32 0x3C800000#32 := by
  have h1 : Ideal.ofBits .f32 0x42800000#32 = ((64 : ℝ) : EReal) := by
    simp [Ideal.ofBits, Ideal.ieee, -EReal.coe_mul]; norm_num
  have h2 : Ideal.ofBits .f32 0x3C800000#32 = (((64 : ℝ)⁻¹ : ℝ) : EReal) := by
    simp [Ideal.ofBits, Ideal.ieee, -EReal.coe_mul]; norm_num
  have hne : ((64 : ℝ) : EReal) ≠ 0 := by
    rw [← EReal.coe_zero]
    exact fun h => by have := EReal.coe_injective h; norm_num at this
  rw [h1, h2, Ideal.div, if_neg hne, EReal.coe_inv]

/-- The reference's keys at an element. -/
theorem ref_at (x : FVec Ideal S8192x14336 .f32) (g : FVec Ideal S64 .f32) (r : Fin 8192) (j : Fin 1024) :
    REF x g (ix2 r j) = x (ix2 r ⟨1024 + j.val, by omega⟩) * Ideal.rsqrt ((∑ k : Fin 64,
        x (ix2 r ⟨1024 + (64 * (j.val / 64) + k.val), by omega⟩) * x (ix2 r ⟨1024 + (64 * (j.val / 64) + k.val), by omega⟩))
          * Ideal.ofBits .f32 0x3C800000#32 + Ideal.ofBits .f32 0x358637BD#32) * g (ix1 ⟨j.val % 64, by omega⟩) := by
  pointwise [REF]
  simp only [Nat.mul_comm 64, div_sixtyfour]

/-- Every key is a finite number. -/
def FiniteKeys (x : FVec Ideal S8192x14336 .f32) : Prop := ∀ (r : Fin 8192) (j : Fin 1024),
  max (x (ix2 r ⟨1024 + j.val, by omega⟩) : EReal) (-x (ix2 r ⟨1024 + j.val, by omega⟩)) < ⊤

/-- The precondition says that every key is finite. -/
theorem finite_at (x : FVec Ideal S8192x14336 .f32) (g g' : FVec Ideal S64 .f32)
    (h : Cert.Pre_keys_finite.fn (F := Ideal) x g g' = fun _ => 1#1) : FiniteKeys x := by
  intro r j
  have h0 := congrFun h (fun a => a.elim0)
  unfold Cert.Pre_keys_finite.fn at h0
  have hs : Subsingleton (Cert.Pre_keys_finite.S_).Idx := ⟨fun a b => funext fun i => i.elim0⟩
  have h1 := Host.reduce_andi_all _ _ _ _ _ h0 (ix2 r j)
  have htop : Ideal.ofBits .f32 0x7F800000#32 = ⊤ := by simp [Ideal.ofBits, Ideal.ieee]
  have h2 : Ideal.cmp .olt (max (x (ix2 r ⟨1024 + j.val, by omega⟩) : EReal) (-x (ix2 r ⟨1024 + j.val, by omega⟩)))
      (Ideal.ofBits .f32 0x7F800000#32) = 1 := by
    refine Eq.trans ?_ h1
    pointwise
    rfl
  rw [htop] at h2
  exact (Ideal.cmp_olt_eq_one _ _).1 h2

end Cert.PrepRef

end
-- ==== Proof.PrepValue.lean ====
module

public import proofs.«01_k».proof.Proof.Gen.KernelPrepIdeal.Value
public import proofs.«01_k».proof.Proof.Gen.ReferencePrepIdeal.Run
public import proofs.«01_k».proof.Proof.PrepGroup
public import proofs.«01_k».proof.Proof.PrepRef
public import Idealize.ShloMosaic.Lib.Pipeline.ValueKit
public import Idealize.ShloMosaic.Lib.Pipeline.ReadBack

/-! The keys' norm: the value of the idealised kernel's keys and values. A key's square is split into its rounding and the
    rest, which over the extended reals is 0 for a finite key; the sums over a group of 64 lanes are products with a
    matrix of zeros and ones. -/

@[expose] public section

set_option maxRecDepth 16384

noncomputable section

open Idealize.ShloMosaic Idealize.ShloMosaic.TcCoe Idealize.SL.Sem
open Idealize.ShloMosaic.Pipeline (Dat)

namespace Cert.PrepValue

open Cert.KernelPrepIdeal Cert.KernelPrepIdeal.Gen Cert.PrepGroup

variable (m : (ℓ : Loc nD τ sig) → Buf (Elt Ideal) ℓ)

/-- A sum over the lanes, of the products with a column of the matrix, is the sum over the column's group. -/
theorem group_sum (f : Fin 128 → EReal) (q : Fin 128) :
    ∑ k : Fin 128, f k * (if k.val / 64 = q.val / 64 then (1 : EReal) else 0)
      = ∑ k : Fin 64, f ⟨64 * (q.val / 64) + k.val, by omega⟩ := by
  have e : ∀ g : Fin 128 → EReal, ∑ k : Fin 128, g k
      = (∑ k : Fin 64, g ⟨k.val, by omega⟩) + ∑ k : Fin 64, g ⟨64 + k.val, by omega⟩ := fun g =>
    (Fin.sum_univ_add (a := 64) (b := 64) g)
  rw [e]
  have hq : q.val / 64 = 0 ∨ q.val / 64 = 1 := by omega
  have h0 : ∀ k : Fin 64, k.val / 64 = 0 := fun k => by omega
  have h1 : ∀ k : Fin 64, (64 + k.val) / 64 = 1 := fun k => by omega
  rcases hq with h | h <;> simp [h, h0, h1]

/-- A finite number less itself is 0. -/
theorem sub_self_of_finite (x : EReal) (h : max x (-x) < ⊤) : x * x - x * x = 0 := by
  have hb : x ≠ ⊥ := fun e => by simp [e] at h
  have ht : x ≠ ⊤ := fun e => by simp [e] at h
  lift x to ℝ using ⟨ht, hb⟩
  rw [← EReal.coe_mul, ← EReal.coe_sub, sub_self, EReal.coe_zero]

/-- The block index of each window at every grid point. -/
theorem idx : ∀ t : Fin cfg0.N, win0_1.index t = ![t.val, 1] ∧ win0_2.index t = ![t.val, 2] ∧
    win0_4.index t = ![0, 0] ∧ win0_5.index t = ![0, 0] ∧
    win0_7.index t = ![t.val, 0] ∧ win0_9.index t = ![t.val, 0] :=
  (by decide +kernel : ∀ t : Fin grid0.N, _)

/-- The matrix of zeros and ones as the launch finds it. -/
theorem V_cst (c : Dev nD) (i j : Fin 128) : (V m c main_cst : FVec Ideal S128x128 .bf16) (ix2 i j)
    = if i.val / 64 = j.val / 64 then (1 : EReal) else 0 := by
  have e : V m c main_cst = fun i => FloatOps.ofBits (F := Ideal) .bf16 (lit0 (S128x128.rowMajor i)) := by
    unfold V; after_results; rfl
  refine (congrFun e _).trans ?_
  have hv : (S128x128.rowMajor (ix2 i j)).val = i.val * 128 + j.val := by
    rw [Shape.rowMajor_val_two]; rfl
  have hi := i.isLt
  have hj := j.isLt
  have hl := lit_at (S128x128.rowMajor (ix2 i j))
  rw [hv, show (i.val * 128 + j.val) / 128 = i.val by omega, show (i.val * 128 + j.val) % 128 = j.val by omega] at hl
  refine (congrArg (FloatOps.ofBits (F := Ideal) .bf16) hl).trans ?_
  split_ifs
  · show Ideal.ofBits .bf16 0x3F80#16 = 1
    simp [Ideal.ofBits, Ideal.ieee]
    rw [← EReal.coe_mul]
    norm_num
  · show Ideal.ofBits .bf16 0#16 = 0
    simp [Ideal.ofBits, Ideal.ieee]

/-- The gain, once for every group, as one row. -/
theorem V_v7 (c : Dev nD) (j : Fin 1024) : (V m c main_v7 : FVec Ideal S1x1024 .f32) (ix2 0 j)
    = (m ((c : Thread nD τ).loc main_arg2) : FVec Ideal S64 .f32) (ix1 ⟨j.val % 64, by omega⟩) := by
  have e : V m c main_v7 = shapeCast S1x1024 (shapeCast S1024 (broadcastInDim S16x64 ![0, 1] bcast_S1x64_S16x64_0_1
      (shapeCast S1x64 (m ((c : Thread nD τ).loc main_arg2) : FVec Ideal S64 .f32) shapeCasts_S64_S1x64))
      shapeCasts_S16x64_S1024) shapeCasts_S1024_S1x1024 := by
    unfold V; after_results; rfl
  refine (congrFun e _).trans ?_
  pointwise

/-- The values a launch leaves are the reference's. -/
theorem final9 (c : Dev nD) : (dats m 0 c).arrAt 9 (cfgs 0).N
    = extractStridedSlice Cert.ReferencePrepIdeal.S8192x1024 ![0, 2048] (extractStridedSlice Cert.ReferencePrepIdeal.S8192x3072 ![0, 0] (m ((c : Thread nD τ).loc main_arg0)) Cert.ReferencePrepIdeal.Gen.slices_S8192x14336_S8192x3072_0_0) Cert.ReferencePrepIdeal.Gen.slices_S8192x3072_S8192x1024_0_2048 := by
  refine (dats m 0 c).arrAt_eq_of_covers 9 _ (by decide +kernel) fun t hf y => ?_
  blk_simp
  rw [after0_9]
  frame_out
  pointwise
  blk_point [iblk, V, idx t]

/-- A column's sum of rounded squares and of what the rounding left, over the lanes of its 128, is the sum of squares over its
    group. -/
theorem chunk (gm : Vec Ideal S128x128 .bf16) (hgm : ∀ i j : Fin 128, gm (ix2 i j) = if i.val / 64 = j.val / 64 then (1 : EReal) else 0)
    (x : Vec Ideal S256x1024 .f32) (r : Fin 256) (hx : ∀ j : Fin 1024, x (ix2 r j) * x (ix2 r j) - x (ix2 r j) * x (ix2 r j) = (0 : EReal))
    (j : Fin 1024) (b : ℕ) (p : Fin 128 → Fin 1024) (q : Fin 128) (hb : b % 128 = 0) (hp : ∀ k, (p k).val = b + k.val)
    (hq : b + q.val = j.val) :
    (∑ k : Fin 128, x (ix2 r (p k)) * x (ix2 r (p k)) * gm (ix2 k q)
      + ∑ k : Fin 128, (x (ix2 r (p k)) * x (ix2 r (p k)) - x (ix2 r (p k)) * x (ix2 r (p k))) * gm (ix2 k q) : EReal)
      = ∑ k : Fin 64, x (ix2 r ⟨64 * (j.val / 64) + k.val, by omega⟩) * x (ix2 r ⟨64 * (j.val / 64) + k.val, by omega⟩) := by
  simp only [hx, hgm, zero_mul, Finset.sum_const_zero, add_zero]
  rw [group_sum (fun k => x (ix2 r (p k)) * x (ix2 r (p k))) q]
  refine Finset.sum_congr rfl fun k _ => ?_
  have e : p ⟨64 * (q.val / 64) + k.val, by omega⟩ = ⟨64 * (j.val / 64) + k.val, by omega⟩ := by
    apply Fin.ext
    rw [hp]
    show b + (64 * (q.val / 64) + k.val) = 64 * (j.val / 64) + k.val
    omega
  rw [e]

/-- The normalised keys a point stores, at an element. -/
theorem pay_at (gm : Vec Ideal S128x128 .bf16) (hgm : ∀ i j : Fin 128, gm (ix2 i j) = if i.val / 64 = j.val / 64 then (1 : EReal) else 0)
    (x : Vec Ideal S256x1024 .f32) (g : Vec Ideal S1x1024 .f32) (r : Fin 256) (j : Fin 1024)
    (hx : ∀ j : Fin 1024, x (ix2 r j) * x (ix2 r j) - x (ix2 r j) * x (ix2 r j) = (0 : EReal)) :
    k0_pay24 gm x (k0_pay17 g) (k0_pay19 x) (k0_pay20 x) (k0_pay21 gm x) (k0_pay22 gm x) (k0_pay23 gm x) (ix2 r j)
      = x (ix2 r j) * Ideal.rsqrt ((∑ k : Fin 64, x (ix2 r ⟨64 * (j.val / 64) + k.val, by omega⟩) * x (ix2 r ⟨64 * (j.val / 64) + k.val, by omega⟩))
          * Ideal.ofBits .f32 0x3C800000#32 + Ideal.ofBits .f32 0x358637BD#32) * g (ix2 0 j) := by
  pointwise [k0_pay24, k0_pay17, k0_pay19, k0_pay20, k0_pay21, k0_pay22, k0_pay23, k0_pay18]
  congr 5
  by_cases h0 : j.val < 128
  · refine (dif_pos h0).trans ?_
    exact chunk gm hgm x r hx j 0 _ _ (by omega) (fun k => by simp) (by simp)
  refine (dif_neg h0).trans ?_
  by_cases h1 : j.val - 128 < 128
  · refine (dif_pos h1).trans ?_
    exact chunk gm hgm x r hx j 128 _ _ (by omega) (fun k => by simp) (by simp; omega)
  refine (dif_neg h1).trans ?_
  by_cases h2 : j.val - 128 - 128 < 128
  · refine (dif_pos h2).trans ?_
    exact chunk gm hgm x r hx j 256 _ _ (by omega) (fun k => by simp) (by simp; omega)
  refine (dif_neg h2).trans ?_
  by_cases h3 : j.val - 128 - 128 - 128 < 128
  · refine (dif_pos h3).trans ?_
    exact chunk gm hgm x r hx j 384 _ _ (by omega) (fun k => by simp) (by simp; omega)
  refine (dif_neg h3).trans ?_
  by_cases h4 : j.val - 128 - 128 - 128 - 128 < 128
  · refine (dif_pos h4).trans ?_
    exact chunk gm hgm x r hx j 512 _ _ (by omega) (fun k => by simp) (by simp; omega)
  refine (dif_neg h4).trans ?_
  by_cases h5 : j.val - 128 - 128 - 128 - 128 - 128 < 128
  · refine (dif_pos h5).trans ?_
    exact chunk gm hgm x r hx j 640 _ _ (by omega) (fun k => by simp) (by simp; omega)
  refine (dif_neg h5).trans ?_
  by_cases h6 : j.val - 128 - 128 - 128 - 128 - 128 - 128 < 128
  · refine (dif_pos h6).trans ?_
    exact chunk gm hgm x r hx j 768 _ _ (by omega) (fun k => by simp) (by simp; omega)
  refine (dif_neg h6).trans ?_
  exact chunk gm hgm x r hx j 896 _ _ (by omega) (fun k => by simp) (by simp; omega)

/-- The keys a point reads are the argument's, from its second thousand and twenty-four columns. -/
theorem key_at (c : Dev nD) (t : Fin cfg0.N) (i : Fin 256) (j : Fin 1024) (r : Fin 8192) (hr : r.val = t.val * 256 + i.val) :
    iblk m c 1 t (ix2 i j) = m ((c : Thread nD τ).loc main_arg0) (ix2 r ⟨1024 + j.val, by omega⟩) := by
  blk_ext! [iblk, V, idx t]

/-- The matrix a point reads. -/
theorem gm_at (c : Dev nD) (t : Fin cfg0.N) (i j : Fin 128) :
    iblk m c 5 t (ix2 i j) = if i.val / 64 = j.val / 64 then (1 : EReal) else 0 := by
  have e : (win0_5.blk t).view.emb (ix2 i j) = ix2 i j := by blk_ext! [idx t]
  exact (congrArg _ e).trans (V_cst m c i j)

/-- The gain a point reads. -/
theorem gain_at (c : Dev nD) (t : Fin cfg0.N) (j : Fin 1024) :
    iblk m c 4 t (ix2 0 j) = m ((c : Thread nD τ).loc main_arg2) (ix1 ⟨j.val % 64, by omega⟩) := by
  have e : (win0_4.blk t).view.emb (ix2 0 j) = ix2 (0 : Fin 1) j := by blk_ext! [idx t]
  exact (congrArg _ e).trans (V_v7 m c j)

/-- The keys a launch leaves are the reference's, of finite keys. -/
theorem final7 (c : Dev nD) (h : Cert.PrepRef.FiniteKeys (m ((c : Thread nD τ).loc main_arg0))) :
    (dats m 0 c).arrAt 7 (cfgs 0).N
      = Cert.PrepRef.REF (m ((c : Thread nD τ).loc main_arg0)) (m ((c : Thread nD τ).loc main_arg2)) := by
  refine (dats m 0 c).arrAt_eq_of_covers 7 _ (by decide +kernel) fun t hf y => ?_
  blk_simp
  rw [after0_7]
  frame_out
  have ht : t.val < 32 := t.isLt
  have h0 : (y 0).val < 256 := (y 0).isLt
  have h1 : (y 1).val < 1024 := (y 1).isLt
  obtain ⟨r, hr⟩ : ∃ r : Fin 8192, r.val = t.val * 256 + (y 0).val := ⟨⟨t.val * 256 + (y 0).val, by omega⟩, rfl⟩
  have ey : y = ix2 (⟨(y 0).val, h0⟩ : Fin 256) (⟨(y 1).val, h1⟩ : Fin 1024) := by
    funext a; fin_cases a <;> rfl
  have ez : ((View.whole main_v8_1).slice (win0_7.rect t)).emb y = ix2 r (⟨(y 1).val, h1⟩ : Fin 1024) := by
    blk_ext! [idx t]
  refine Eq.trans ?_ (congrArg _ ez).symm
  refine Eq.trans ?_ (Cert.PrepRef.ref_at _ _ r ⟨(y 1).val, h1⟩).symm
  refine (congrArg _ ey).trans ?_
  refine (pay_at _ (gm_at m c t) _ _ _ _ fun j => ?_).trans ?_
  · rw [key_at m c t ⟨(y 0).val, h0⟩ j r hr]
    exact sub_self_of_finite _ (h r j)
  · have e := fun j => key_at m c t ⟨(y 0).val, h0⟩ j r hr
    simp only [e, gain_at m c t]

end Cert.PrepValue

end
-- ==== Proof.PrepClaim.lean ====
module

public import proofs.«01_k».proof.Defs
public import proofs.«01_k».proof.Proof.PrepValue

/-! The keys and values of the prompt: of finite keys, the idealized kernel computes its reference's two arrays. -/

@[expose] public section

set_option maxRecDepth 16384

noncomputable section

open Idealize.ShloMosaic Idealize.ShloMosaic.TcCoe Idealize.SL.Sem

namespace PrepClaim

section Kernel

open Cert.KernelPrepIdeal Cert.KernelPrepIdeal.Gen

variable (m : (ℓ : Loc nD τ sig) → Buf (Elt Ideal) ℓ) (ρ : Dev nD → PrngReg)

/-- The kernel's run of finite keys, with what its two results and its arguments hold in the end. -/
theorem run (hpre : Cert.Pre_KernelPrepIdeal_keys_finite m) :
    θ_run defs (onTc (τ := τ) (main (F := Ideal))) ⟨m, fun _ => 0, ρ⟩ fun r => ∀ c : Dev nD,
      r.2.mem ((c.tc : Thread nD τ).loc main_v8_1)
        = Cert.PrepRef.REF (m ((c.tc : Thread nD τ).loc main_arg0)) (m ((c.tc : Thread nD τ).loc main_arg2))
      ∧ r.2.mem ((c.tc : Thread nD τ).loc main_v8_3)
        = extractStridedSlice Cert.ReferencePrepIdeal.S8192x1024 ![0, 2048] (extractStridedSlice Cert.ReferencePrepIdeal.S8192x3072 ![0, 0] (m ((c.tc : Thread nD τ).loc main_arg0)) Cert.ReferencePrepIdeal.Gen.slices_S8192x14336_S8192x3072_0_0) Cert.ReferencePrepIdeal.Gen.slices_S8192x3072_S8192x1024_0_2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).2.1.trans (Cert.PrepValue.final7 m c (Cert.PrepRef.finite_at _ _ _ (hpre c))),
      (h c).2.2.2.1.trans (Cert.PrepValue.final9 m c), (h c).2.2.2.2.2⟩)
    (Cert.KernelPrepIdeal.Value.run_blocks (F := Ideal) m ρ)

end Kernel

/-- Of finite keys, the kernel computes its reference's keys and values. -/
theorem algebraic : Cert.algebraic_KernelPrepIdeal_ReferencePrepIdeal_pre_keys_finite := by
  intro m ρ m' ρ' hpre hagree
  refine ⟨_, _, run m ρ hpre, ?_⟩
  refine (θ_run Cert.ReferencePrepIdeal.defs _ _).mono (fun _ h c => ⟨(h c).1.trans ?_, (h c).2.1.trans ?_, (h c).2.2⟩)
    (Cert.ReferencePrepIdeal.Value.run (F := Ideal) m' ρ')
  · obtain ⟨h0, h1, h2⟩ := hagree c
    rw [h0, h2]
    rfl
  · obtain ⟨h0, h1, h2⟩ := hagree c
    rw [h0]

end PrepClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelUp
public import proofs.«01_k».proof.Proof.Gen.KernelUpIdeal
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.ReferenceDownIdeal.Run
public import proofs.«01_k».proof.Proof.Gen.KernelMerge
public import proofs.«01_k».proof.Proof.Gen.KernelMerge.Frame
public import proofs.«01_k».proof.Proof.Gen.KernelMergeIdeal
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.KernelPrep
public import proofs.«01_k».proof.Proof.Gen.KernelPrep.Frame
public import proofs.«01_k».proof.Proof.Gen.KernelPrepIdeal
public import proofs.«01_k».proof.Proof.Gen.KernelPrepIdeal.Frame
public import proofs.«01_k».proof.Proof.Gen.KernelPrepIdeal.Value
public import proofs.«01_k».proof.Proof.Gen.ReferencePrepIdeal
public import proofs.«01_k».proof.Proof.Gen.ReferencePrepIdeal.Run
public import proofs.«01_k».proof.Proof.Gen.Pre_keys_finite
public import proofs.«01_k».proof.Proof.Constants
public import proofs.«01_k».proof.Proof.Projections
public import proofs.«01_k».proof.Proof.RetentionClaim
public import proofs.«01_k».proof.Proof.UpFrame
public import proofs.«01_k».proof.Proof.UpClaim
public import proofs.«01_k».proof.Proof.PrepClaim
public import Idealize.ShloMosaic.Lib.Quiescent

/-! The certificate: every program runs to the end with its arguments unchanged and the machine quiescent; the idealised
    kernels are their originals read over the extended reals, but for the retention kernel's named constants; and the
    idealised kernels compute their references' arrays. -/

@[expose] public section

noncomputable section

namespace Cert.Proof

open Idealize.ShloMosaic Idealize.SL.Sem

/-- The reference of the retention runs to the end, keeps its arguments and leaves no semaphore raised. -/
theorem frame_ReferenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference of the input projection runs to the end, keeps its arguments and leaves no semaphore raised. -/
theorem frame_ReferenceInIdeal : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The reference of the feed-forward block's first product runs to the end, keeps its arguments and leaves no semaphore raised. -/
theorem frame_ReferenceUpIdeal : Cert.quiescent_ReferenceUpIdeal := fun m ρ _ =>
  (θ_run Cert.ReferenceUpIdeal.defs _ _).mono (fun r h => ⟨fun c => (h c).2.2, sem_eq_zero_of_no_sems (by decide) r.2⟩)
    (Cert.ReferenceUpIdeal.Value.run (F := Ideal) m ρ)

/-- The reference of the feed-forward block's second product runs to the end, keeps its arguments and leaves no semaphore raised. -/
theorem frame_ReferenceDownIdeal : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The reference of the merge of the branches runs to the end, keeps its arguments and leaves no semaphore raised. -/
theorem frame_ReferenceMergeIdeal : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

/-- The reference of the output projection runs to the end, keeps its arguments and leaves no semaphore raised. -/
theorem frame_ReferenceOutIdeal : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The reference of the prompt's keys and values runs to the end, keeps its arguments and leaves no semaphore raised. -/
theorem frame_ReferencePrepIdeal : Cert.quiescent_ReferencePrepIdeal := fun m ρ _ =>
  (θ_run Cert.ReferencePrepIdeal.defs _ _).mono (fun r h => ⟨fun c => (h c).2.2, sem_eq_zero_of_no_sems (by decide) r.2⟩)
    (Cert.ReferencePrepIdeal.Value.run (F := Ideal) m ρ)

/-- Every claim of the certificate, in its order. -/
theorem claim : Cert.Claim :=
  ⟨Cert.Kernel.Gen.facts,
    Cert.KernelIdeal.Gen.facts,
    Cert.ReferenceIdeal.Gen.facts,
    Cert.KernelIn.Gen.facts,
    Cert.KernelInIdeal.Gen.facts,
    Cert.ReferenceInIdeal.Gen.facts,
    Cert.KernelUp.Gen.facts,
    Cert.KernelUpIdeal.Gen.facts,
    Cert.ReferenceUpIdeal.Gen.facts,
    Cert.KernelDown.Gen.facts,
    Cert.KernelDownIdeal.Gen.facts,
    Cert.ReferenceDownIdeal.Gen.facts,
    Cert.KernelMerge.Gen.facts,
    Cert.KernelMergeIdeal.Gen.facts,
    Cert.ReferenceMergeIdeal.Gen.facts,
    Cert.KernelOut.Gen.facts,
    Cert.KernelOutIdeal.Gen.facts,
    Cert.ReferenceOutIdeal.Gen.facts,
    Cert.KernelPrep.Gen.facts,
    Cert.KernelPrepIdeal.Gen.facts,
    Cert.ReferencePrepIdeal.Gen.facts,
    Cert.Pre_keys_finite.Gen.facts,
    fun m ρ _ => Cert.Kernel.Gen.frame m ρ,
    fun m ρ _ => Cert.KernelIdeal.Gen.frame m ρ,
    frame_ReferenceIdeal,
    fun m ρ _ => Cert.KernelIn.Gen.frame m ρ,
    fun m ρ _ => Cert.KernelInIdeal.Gen.frame m ρ,
    frame_ReferenceInIdeal,
    UpFrame.frame_KernelUp,
    UpFrame.frame_KernelUpIdeal,
    frame_ReferenceUpIdeal,
    fun m ρ _ => Cert.KernelDown.Gen.frame m ρ,
    fun m ρ _ => Cert.KernelDownIdeal.Gen.frame m ρ,
    frame_ReferenceDownIdeal,
    fun m ρ _ => Cert.KernelMerge.Gen.frame m ρ,
    fun m ρ _ => Cert.KernelMergeIdeal.Gen.frame m ρ,
    frame_ReferenceMergeIdeal,
    fun m ρ _ => Cert.KernelOut.Gen.frame m ρ,
    fun m ρ _ => Cert.KernelOutIdeal.Gen.frame m ρ,
    frame_ReferenceOutIdeal,
    fun m ρ _ => Cert.KernelPrep.Gen.frame m ρ,
    fun m ρ _ => Cert.KernelPrepIdeal.Gen.frame m ρ,
    fun m ρ _ => Cert.KernelPrepIdeal.Gen.frame m ρ,
    frame_ReferencePrepIdeal,
    fun m ρ _ => frame_ReferencePrepIdeal m ρ trivial,
    Constants.preserves,
    RetentionClaim.algebraic,
    trivial,
    Projections.algebraic_in,
    trivial,
    UpClaim.algebraic,
    trivial,
    Projections.algebraic_down,
    trivial,
    Projections.algebraic_merge,
    trivial,
    Projections.algebraic_out,
    trivial,
    PrepClaim.algebraic⟩

end Cert.Proof
